-- ==== Defs.lean ====
def Pre_Kernel [hPre_lengths_fit : Cert.Pre_lengths_fit.Facts] (m : (ℓ : Loc Cert.Kernel.nD Cert.Kernel.τ Cert.Kernel.sig) → Buf (Elt Bits) ℓ) : Prop :=
  ∀ c : Dev Cert.Kernel.nD,
    (Cert.Pre_lengths_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_lengths_fit : Cert.Pre_lengths_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_lengths_fit : Cert.Pre_lengths_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.Statement Cert.KernelIdeal.S1x32x2x128 Cert.KernelIdeal.S1x32x1x128
  ∧ IdealRules.bf16_pair.Statement Cert.KernelIdeal.S64x128 Cert.KernelIdeal.S32x128

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v15) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v48_0) = v1 c
          ∧ r.2.mem ((c.tc : Thread Cert.ReferenceIdeal.nD Cert.ReferenceIdeal.τ).loc Cert.ReferenceIdeal.main_v48_1) = v2 c
          ∧ r.2.mem ((c.tc : Thread Cert.ReferenceIdeal.nD Cert.ReferenceIdeal.τ).loc Cert.ReferenceIdeal.main_v48_2) = v3 c
          ∧ r.2.mem ((c.tc : Thread Cert.ReferenceIdeal.nD Cert.ReferenceIdeal.τ).loc Cert.ReferenceIdeal.main_v48_3) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_lengths_fit : Cert.Pre_lengths_fit.Facts) (hPre_in_range : Cert.Pre_in_range.Facts),
    quiescent_Kernel (hKernel := hKernel) (hPre_lengths_fit := hPre_lengths_fit)
    ∧ quiescent_KernelIdeal (hKernelIdeal := hKernelIdeal) (hPre_lengths_fit := hPre_lengths_fit)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S64x32x32x128 : Shape := ⟨4, ![64, 32, 32, 128]⟩
abbrev S64x32x2x128 : Shape := ⟨4, ![64, 32, 2, 128]⟩
abbrev S64x2048x2x128 : Shape := ⟨4, ![64, 2048, 2, 128]⟩
abbrev S64x2048x2 : Shape := ⟨3, ![64, 2048, 2]⟩
abbrev S64 : Shape := ⟨1, ![64]⟩
abbrev S32x32 : Shape := ⟨2, ![32, 32]⟩
abbrev S_ : Shape := ⟨0, ![]⟩
abbrev S64x32x2 : Shape := ⟨3, ![64, 32, 2]⟩

class Facts : Prop where
  bcast_S_S64 : S_.BroadcastsInDim S64 (![] : Fin 0 → Fin S64.rank)
  reducesTo_S64_S_d0 : S64.ReducesTo [0] S_
  h_S_ : 0 < S_.numel
  bitsLt_bf16_f32 : FTy.bits .bf16 < FTy.bits .f32
  reducesTo_S64x32x2x128_S64x32x2_d3 : S64x32x2x128.ReducesTo [3] S64x32x2
  bcast_S_S64x32x2 : S_.BroadcastsInDim S64x32x2 (![] : Fin 0 → Fin S64x32x2.rank)
  reducesTo_S64x32x2_S_d0_1_2 : S64x32x2.ReducesTo [0, 1, 2] S_

variable [Facts]

def fn_part1 {F : FTy → Type} [FloatOps F] (main_arg2 : FVec F S64x32x2x128 .bf16) (main_v2 : IVec S_ 1) (main_v15 : IVec S64x32x2 1) (main_c_5 : IVec S_ 1) : IVec S_ 1 :=
  let main_v16 : IVec S_ 1 := (fun x v => Host.reduce IntOp.andi x v reducesTo_S64x32x2_S_d0_1_2 h_S_) main_v15 main_c_5
  let main_v17 : IVec S_ 1 := andi main_v2 main_v16
  let main_v18 : FVec F S64x32x2x128 .f32 := (extf .f32 · bitsLt_bf16_f32) main_arg2
  let main_v19 : FVec F S64x32x2x128 .f32 := Host.absf main_v18
  let main_cst_6 : FVec F S_ .f32 := constant S_ .f32 0xFF800000#32
  let main_v20 : FVec F S64x32x2 .f32 := (fun x v => Host.reduce FloatOps.maximumf x v reducesTo_S64x32x2x128_S64x32x2_d3 h_S_) main_v19 main_cst_6
  let main_cst_7 : FVec F S_ .f32 := constant S_ .f32 0x3B124925#32
  let main_v21 : FVec F S64x32x2 .f32 := broadcastInDim S64x32x2 ![] bcast_S_S64x32x2 main_cst_7
  let main_v22 : FVec F S64x32x2 .f32 := mulf main_v20 main_v21
  let main_cst_8 : FVec F S_ .f32 := constant S_ .f32 0x00000000#32
  let main_v23 : FVec F S64x32x2 .f32 := broadcastInDim S64x32x2 ![] bcast_S_S64x32x2 main_cst_8
  let main_v24 : IVec S64x32x2 1 := cmpf .oeq main_v20 main_v23
  let main_cst_9 : FVec F S_ .f32 := constant S_ .f32 0x00400000#32
  let main_v25 : FVec F S64x32x2 .f32 := broadcastInDim S64x32x2 ![] bcast_S_S64x32x2 main_cst_9
  let main_v26 : IVec S64x32x2 1 := cmpf .oge main_v22 main_v25
  let main_cst_10 : FVec F S_ .f32 := constant S_ .f32 0x7E800000#32
  let main_v27 : FVec F S64x32x2 .f32 := broadcastInDim S64x32x2 ![] bcast_S_S64x32x2 main_cst_10
  let main_v28 : IVec S64x32x2 1 := cmpf .olt main_v22 main_v27
  let main_v29 : IVec S64x32x2 1 := andi main_v26 main_v28
  let main_v30 : IVec S64x32x2 1 := ori main_v24 main_v29
  let main_c_11 : IVec S_ 1 := constantI S_ 1 1#1
  let main_v31 : IVec S_ 1 := (fun x v => Host.reduce IntOp.andi x v reducesTo_S64x32x2_S_d0_1_2 h_S_) main_v30 main_c_11
  let main_v32 : IVec S_ 1 := andi main_v17 main_v31
  main_v32

def fn {F : FTy → Type} [FloatOps F] (main_arg0 : FVec F S64x32x32x128 .bf16) (main_arg1 : FVec F S64x32x2x128 .bf16) (main_arg2 : FVec F S64x32x2x128 .bf16) (main_arg3 : FVec F S64x2048x2x128 .fp8e4m3) (main_arg4 : FVec F S64x2048x2 .f32) (main_arg5 : FVec F S64x2048x2x128 .fp8e4m3) (main_arg6 : FVec F S64x2048x2 .f32) (main_arg7 : IVec S64 32) (main_arg8 : IVec S32x32 1) : IVec S_ 1 :=
  let main_c : IVec S_ 32 := constantI S_ 32 2048#32
  let main_v0 : IVec S64 32 := broadcastInDim S64 ![] bcast_S_S64 main_c
  let main_v1 : IVec S64 1 := cmpi .sle main_arg7 main_v0
  let main_c_0 : IVec S_ 1 := constantI S_ 1 1#1
  let main_v2 : IVec S_ 1 := (fun x v => Host.reduce IntOp.andi x v reducesTo_S64_S_d0 h_S_) main_v1 main_c_0
  let main_v3 : FVec F S64x32x2x128 .f32 := (extf .f32 · bitsLt_bf16_f32) main_arg1
  let main_v4 : FVec F S64x32x2x128 .f32 := Host.absf main_v3
  let main_cst : FVec F S_ .f32 := constant S_ .f32 0xFF800000#32
  let main_v5 : FVec F S64x32x2 .f32 := (fun x v => Host.reduce FloatOps.maximumf x v reducesTo_S64x32x2x128_S64x32x2_d3 h_S_) main_v4 main_cst
  let main_cst_1 : FVec F S_ .f32 := constant S_ .f32 0x3B124925#32
  let main_v6 : FVec F S64x32x2 .f32 := broadcastInDim S64x32x2 ![] bcast_S_S64x32x2 main_cst_1
  let main_v7 : FVec F S64x32x2 .f32 := mulf main_v5 main_v6
  let main_cst_2 : FVec F S_ .f32 := constant S_ .f32 0x00000000#32
  let main_v8 : FVec F S64x32x2 .f32 := broadcastInDim S64x32x2 ![] bcast_S_S64x32x2 main_cst_2
  let main_v9 : IVec S64x32x2 1 := cmpf .oeq main_v5 main_v8
  let main_cst_3 : FVec F S_ .f32 := constant S_ .f32 0x00400000#32
  let main_v10 : FVec F S64x32x2 .f32 := broadcastInDim S64x32x2 ![] bcast_S_S64x32x2 main_cst_3
  let main_v11 : IVec S64x32x2 1 := cmpf .oge main_v7 main_v10
  let main_cst_4 : FVec F S_ .f32 := constant S_ .f32 0x7E800000#32
  let main_v12 : FVec F S64x32x2 .f32 := broadcastInDim S64x32x2 ![] bcast_S_S64x32x2 main_cst_4
  let main_v13 : IVec S64x32x2 1 := cmpf .olt main_v7 main_v12
  let main_v14 : IVec S64x32x2 1 := andi main_v11 main_v13
  let main_v15 : IVec S64x32x2 1 := ori main_v9 main_v14
  let main_c_5 : IVec S_ 1 := constantI S_ 1 1#1
  fn_part1 (F := F) main_arg2 main_v2 main_v15 main_c_5
-- ==== Pre_lengths_fit.lean ====
abbrev S64x32x32x128 : Shape := ⟨4, ![64, 32, 32, 128]⟩
abbrev S64x32x2x128 : Shape := ⟨4, ![64, 32, 2, 128]⟩
abbrev S64x2048x2x128 : Shape := ⟨4, ![64, 2048, 2, 128]⟩
abbrev S64x2048x2 : Shape := ⟨3, ![64, 2048, 2]⟩
abbrev S64 : Shape := ⟨1, ![64]⟩
abbrev S32x32 : Shape := ⟨2, ![32, 32]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S64x32x32x128 .bf16) (main_arg1 : FVec F S64x32x2x128 .bf16) (main_arg2 : FVec F S64x32x2x128 .bf16) (main_arg3 : FVec F S64x2048x2x128 .fp8e4m3) (main_arg4 : FVec F S64x2048x2 .f32) (main_arg5 : FVec F S64x2048x2x128 .fp8e4m3) (main_arg6 : FVec F S64x2048x2 .f32) (main_arg7 : IVec S64 32) (main_arg8 : IVec S32x32 1) : IVec S_ 1 :=
  let main_c : IVec S_ 32 := constantI S_ 32 2048#32
  let main_v0 : IVec S64 32 := broadcastInDim S64 ![] bcast_S_S64 main_c
  let main_v1 : IVec S64 1 := cmpi .sle main_arg7 main_v0
  let main_c_0 : IVec S_ 1 := constantI S_ 1 1#1
  let main_v2 : IVec S_ 1 := (fun x v => Host.reduce IntOp.andi x v reducesTo_S64_S_d0 h_S_) main_v1 main_c_0
  main_v2
-- ==== Kernel.lean ====
abbrev S64x32x32x128 : Shape := ⟨4, ![64, 32, 32, 128]⟩
abbrev S64x32x2x128 : Shape := ⟨4, ![64, 32, 2, 128]⟩
abbrev S64x2048x2x128 : Shape := ⟨4, ![64, 2048, 2, 128]⟩
abbrev S64x2048x2 : Shape := ⟨3, ![64, 2048, 2]⟩
abbrev S64 : Shape := ⟨1, ![64]⟩
abbrev S32x32 : Shape := ⟨2, ![32, 32]⟩
abbrev S64x2x2048x128 : Shape := ⟨4, ![64, 2, 2048, 128]⟩
abbrev S64x2x2048 : Shape := ⟨3, ![64, 2, 2048]⟩
abbrev S32x32x16 : Shape := ⟨3, ![32, 32, 16]⟩
abbrev S32x512 : Shape := ⟨2, ![32, 512]⟩
abbrev S_ : Shape := ⟨0, ![]⟩
abbrev S64x2x32x128 : Shape := ⟨4, ![64, 2, 32, 128]⟩
abbrev S64x2x32x1 : Shape := ⟨4, ![64, 2, 32, 1]⟩
abbrev S1x32x32x128 : Shape := ⟨4, ![1, 32, 32, 128]⟩
abbrev S1x32x2x128 : Shape := ⟨4, ![1, 32, 2, 128]⟩
abbrev S1x2x2048x128 : Shape := ⟨4, ![1, 2, 2048, 128]⟩
abbrev S1x2x2048 : Shape := ⟨3, ![1, 2, 2048]⟩
abbrev S1x2x32x128 : Shape := ⟨4, ![1, 2, 32, 128]⟩
abbrev S1x2x32x1 : Shape := ⟨4, ![1, 2, 32, 1]⟩
abbrev S1 : Shape := ⟨1, ![1]⟩
abbrev S1x32x1x128 : Shape := ⟨4, ![1, 32, 1, 128]⟩
abbrev S32x1x128 : Shape := ⟨3, ![32, 1, 128]⟩
abbrev S32x128 : Shape := ⟨2, ![32, 128]⟩
abbrev S32 : Shape := ⟨1, ![32]⟩
abbrev S32x1 : Shape := ⟨2, ![32, 1]⟩
abbrev S1x256 : Shape := ⟨2, ![1, 256]⟩
abbrev S32x256 : Shape := ⟨2, ![32, 256]⟩
abbrev S1x1x32x128 : Shape := ⟨4, ![1, 1, 32, 128]⟩
abbrev S1x1x32x1 : Shape := ⟨4, ![1, 1, 32, 1]⟩
abbrev S1x32x16x128 : Shape := ⟨4, ![1, 32, 16, 128]⟩
abbrev S32x16x128 : Shape := ⟨3, ![32, 16, 128]⟩
abbrev S512x128 : Shape := ⟨2, ![512, 128]⟩
abbrev S512 : Shape := ⟨1, ![512]⟩
abbrev S1x512 : Shape := ⟨2, ![1, 512]⟩
abbrev S1x1x256x128 : Shape := ⟨4, ![1, 1, 256, 128]⟩
abbrev S256x128 : Shape := ⟨2, ![256, 128]⟩
abbrev S1x1x256 : Shape := ⟨3, ![1, 1, 256]⟩
abbrev S256x1 : Shape := ⟨2, ![256, 1]⟩
abbrev S256x512 : Shape := ⟨2, ![256, 512]⟩
abbrev S128x512 : Shape := ⟨2, ![128, 512]⟩
abbrev S64x2x32 : Shape := ⟨3, ![64, 2, 32]⟩
abbrev S64x32x2 : Shape := ⟨3, ![64, 32, 2]⟩

abbrev nBuf : Space → Nat
  | .hbm => 33
  | .vmem => 25
  | .smem => 1
  | _ => 0

abbrev bufTy : (tb : Table) → Fin (tcTables nBuf tb) → BufTy
  | .hbm, ⟨0, _⟩ => ⟨S64x32x32x128, .bf16⟩
  | .hbm, ⟨1, _⟩ => ⟨S64x32x2x128, .bf16⟩
  | .hbm, ⟨2, _⟩ => ⟨S64x32x2x128, .bf16⟩
  | .hbm, ⟨3, _⟩ => ⟨S64x2048x2x128, .fp8e4m3⟩
  | .hbm, ⟨4, _⟩ => ⟨S64x2048x2, .f32⟩
  | .hbm, ⟨5, _⟩ => ⟨S64x2048x2x128, .fp8e4m3⟩
  | .hbm, ⟨6, _⟩ => ⟨S64x2048x2, .f32⟩
  | .hbm, ⟨7, _⟩ => ⟨S64, .i32⟩
  | .hbm, ⟨8, _⟩ => ⟨S32x32, .i1⟩
  | .hbm, ⟨9, _⟩ => ⟨S64x2x2048x128, .fp8e4m3⟩
  | .hbm, ⟨10, _⟩ => ⟨S64x2x2048x128, .fp8e4m3⟩
  | .hbm, ⟨11, _⟩ => ⟨S64x2x2048, .f32⟩
  | .hbm, ⟨12, _⟩ => ⟨S64x2x2048, .f32⟩
  | .hbm, ⟨13, _⟩ => ⟨S32x32, .i1⟩
  | .hbm, ⟨14, _⟩ => ⟨S32x32x16, .i1⟩
  | .hbm, ⟨15, _⟩ => ⟨S32x512, .i1⟩
  | .hbm, ⟨16, _⟩ => ⟨S_, .f32⟩
  | .hbm, ⟨17, _⟩ => ⟨S_, .f32⟩
  | .hbm, ⟨18, _⟩ => ⟨S32x512, .f32⟩
  | .hbm, ⟨19, _⟩ => ⟨S32x512, .f32⟩
  | .hbm, ⟨20, _⟩ => ⟨S32x512, .f32⟩
  | .hbm, ⟨21, _⟩ => ⟨S32x512, .f32⟩
  | .hbm, ⟨22, _⟩ => ⟨S64x32x32x128, .bf16⟩
  | .hbm, ⟨23, _⟩ => ⟨S64x2x32x128, .fp8e4m3⟩
  | .hbm, ⟨24, _⟩ => ⟨S64x2x32x1, .f32⟩
  | .hbm, ⟨25, _⟩ => ⟨S64x2x32x128, .fp8e4m3⟩
  | .hbm, ⟨26, _⟩ => ⟨S64x2x32x1, .f32⟩
  | .hbm, ⟨27, _⟩ => ⟨S64x32x2x128, .fp8e4m3⟩
  | .hbm, ⟨28, _⟩ => ⟨S64x2x32, .f32⟩
  | .hbm, ⟨29, _⟩ => ⟨S64x32x2, .f32⟩
  | .hbm, ⟨30, _⟩ => ⟨S64x32x2x128, .fp8e4m3⟩
  | .hbm, ⟨31, _⟩ => ⟨S64x2x32, .f32⟩
  | .hbm, ⟨32, _⟩ => ⟨S64x32x2, .f32⟩
  | .local _ .vmem, ⟨0, _⟩ => ⟨S1x32x32x128, .bf16⟩
  | .local _ .vmem, ⟨1, _⟩ => ⟨S1x32x32x128, .bf16⟩
  | .local _ .vmem, ⟨2, _⟩ => ⟨S1x32x2x128, .bf16⟩
  | .local _ .vmem, ⟨3, _⟩ => ⟨S1x32x2x128, .bf16⟩
  | .local _ .vmem, ⟨4, _⟩ => ⟨S1x32x2x128, .bf16⟩
  | .local _ .vmem, ⟨5, _⟩ => ⟨S1x32x2x128, .bf16⟩
  | .local _ .vmem, ⟨6, _⟩ => ⟨S1x2x2048x128, .fp8e4m3⟩
  | .local _ .vmem, ⟨7, _⟩ => ⟨S1x2x2048x128, .fp8e4m3⟩
  | .local _ .vmem, ⟨8, _⟩ => ⟨S1x2x2048, .f32⟩
  | .local _ .vmem, ⟨9, _⟩ => ⟨S1x2x2048, .f32⟩
  | .local _ .vmem, ⟨10, _⟩ => ⟨S1x2x2048x128, .fp8e4m3⟩
  | .local _ .vmem, ⟨11, _⟩ => ⟨S1x2x2048x128, .fp8e4m3⟩
  | .local _ .vmem, ⟨12, _⟩ => ⟨S1x2x2048, .f32⟩
  | .local _ .vmem, ⟨13, _⟩ => ⟨S1x2x2048, .f32⟩
  | .local _ .vmem, ⟨14, _⟩ => ⟨S32x512, .f32⟩
  | .local _ .vmem, ⟨15, _⟩ => ⟨S1x32x32x128, .bf16⟩
  | .local _ .vmem, ⟨16, _⟩ => ⟨S1x32x32x128, .bf16⟩
  | .local _ .vmem, ⟨17, _⟩ => ⟨S1x2x32x128, .fp8e4m3⟩
  | .local _ .vmem, ⟨18, _⟩ => ⟨S1x2x32x128, .fp8e4m3⟩
  | .local _ .vmem, ⟨19, _⟩ => ⟨S1x2x32x1, .f32⟩
  | .local _ .vmem, ⟨20, _⟩ => ⟨S1x2x32x1, .f32⟩
  | .local _ .vmem, ⟨21, _⟩ => ⟨S1x2x32x128, .fp8e4m3⟩
  | .local _ .vmem, ⟨22, _⟩ => ⟨S1x2x32x128, .fp8e4m3⟩
  | .local _ .vmem, ⟨23, _⟩ => ⟨S1x2x32x1, .f32⟩
  | .local _ .vmem, ⟨24, _⟩ => ⟨S1x2x32x1, .f32⟩
  | .local _ .smem, ⟨0, _⟩ => ⟨S64, .i32⟩
  | _, _ => ⟨S64x32x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v9_3 : Ref sig .tc := ⟨.hbm, 25, rfl⟩
abbrev main_v9_4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [BitOps F]

abbrev grid0 : Pipeline.Grid := ⟨1, ![64], ![false]⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_58 : BitVec 32 := 0#32
  let c255_i32_57 : BitVec 32 := 255#32
  let v138 : BitVec 32 := Scalar.addi v1 c255_i32_57
  let c256_i32 : BitVec 32 := 256#32
  let v139 : BitVec 32 := Scalar.divsi v138 c256_i32
  let v140 : BitVec 32 := Scalar.subi v139 c0_i32_58
  let c1_i32_59 : BitVec 32 := 1#32
  let v142 : BitVec 32 := Scalar.divsi v140 c1_i32_59
  let v143 : BitVec 32 := Scalar.muli v142 c1_i32_59
  let v144 : BitVec 32 := Scalar.addi c0_i32_58 v143
  let c1_i32_60 : BitVec 32 := 1#32
  ⟨c0_i32_58, v144, c1_i32_60⟩

def k0_mult1 (v1 : BitVec 32) (k0_t1 : Fin (k0_t1_loop v1).trips) : BitVec 32 :=
  let c0_i32_58 : BitVec 32 := 0#32
  let c1_i32_60 : BitVec 32 := 1#32
  let arg15 : BitVec 32 := Scf.iv c0_i32_58 c1_i32_60 k0_t1
  let c256_i32_141 : BitVec 32 := 256#32
  let v326 : BitVec 32 := Scalar.muli arg15 c256_i32_141
  v326
def k0_off2 (v1 : BitVec 32) (k0_t1 : Fin (k0_t1_loop v1).trips) : Fin 4 → Nat :=
  let c0_142 : Index := 0#32
  let c0_143 : Index := 0#32
  let c0_i32_58 : BitVec 32 := 0#32
  let c1_i32_60 : BitVec 32 := 1#32
  let arg15 : BitVec 32 := Scf.iv c0_i32_58 c1_i32_60 k0_t1
  let c256_i32_141 : BitVec 32 := 256#32
  let v326 : BitVec 32 := Scalar.muli arg15 c256_i32_141
  let v327 : BitVec 32 := v326
  let v328 : Index := Scalar.indexCast v327
  let c0_144 : Index := 0#32
  ![0, 0, v328.toNat, 0]
def k0_off3 (v1 : BitVec 32) (k0_t1 : Fin (k0_t1_loop v1).trips) : Fin 3 → Nat :=
  let c0_145 : Index := 0#32
  let c0_146 : Index := 0#32
  let c0_i32_58 : BitVec 32 := 0#32
  let c1_i32_60 : BitVec 32 := 1#32
  let arg15 : BitVec 32 := Scf.iv c0_i32_58 c1_i32_60 k0_t1
  let c256_i32_141 : BitVec 32 := 256#32
  let v326 : BitVec 32 := Scalar.muli arg15 c256_i32_141
  let v327 : BitVec 32 := v326
  let v332 : Index := Scalar.indexCast v327
  ![0, 0, v332.toNat]
@[reducible] def k0_t2_loop (v1 : BitVec 32) : Scf.Loop 32 :=
  let c0_i32_58 : BitVec 32 := 0#32
  let c255_i32_57 : BitVec 32 := 255#32
  let v138 : BitVec 32 := Scalar.addi v1 c255_i32_57
  let c256_i32 : BitVec 32 := 256#32
  let v139 : BitVec 32 := Scalar.divsi v138 c256_i32
  let v140 : BitVec 32 := Scalar.subi v139 c0_i32_58
  let c1_i32_59 : BitVec 32 := 1#32
  let v142 : BitVec 32 := Scalar.divsi v140 c1_i32_59
  let v143 : BitVec 32 := Scalar.muli v142 c1_i32_59
  let v144 : BitVec 32 := Scalar.addi c0_i32_58 v143
  let v141 : BitVec 32 := Scalar.addi c0_i32_58 v140
  let c1_i32_61 : BitVec 32 := 1#32
  ⟨v144, v141, c1_i32_61⟩
def k0_mult2 (v1 : BitVec 32) (k0_t2 : Fin (k0_t2_loop v1).trips) : BitVec 32 :=
  let c0_i32_58 : BitVec 32 := 0#32
  let c255_i32_57 : BitVec 32 := 255#32
  let v138 : BitVec 32 := Scalar.addi v1 c255_i32_57
  let c256_i32 : BitVec 32 := 256#32
  let v139 : BitVec 32 := Scalar.divsi v138 c256_i32
  let v140 : BitVec 32 := Scalar.subi v139 c0_i32_58
  let c1_i32_59 : BitVec 32 := 1#32
  let v142 : BitVec 32 := Scalar.divsi v140 c1_i32_59
  let v143 : BitVec 32 := Scalar.muli v142 c1_i32_59
  let v144 : BitVec 32 := Scalar.addi c0_i32_58 v143
  let c1_i32_61 : BitVec 32 := 1#32
  let arg15 : BitVec 32 := Scf.iv v144 c1_i32_61 k0_t2
  let c256_i32_141 : BitVec 32 := 256#32
  let v326 : BitVec 32 := Scalar.muli arg15 c256_i32_141
  v326
def k0_off4 (v1 : BitVec 32) (k0_t2 : Fin (k0_t2_loop v1).trips) : Fin 4 → Nat :=
  let c0_142 : Index := 0#32
  let c0_143 : Index := 0#32
  let c0_i32_58 : BitVec 32 := 0#32
  let c255_i32_57 : BitVec 32 := 255#32
  let v138 : BitVec 32 := Scalar.addi v1 c255_i32_57
  let c256_i32 : BitVec 32 := 256#32
  let v139 : BitVec 32 := Scalar.divsi v138 c256_i32
  let v140 : BitVec 32 := Scalar.subi v139 c0_i32_58
  let c1_i32_59 : BitVec 32 := 1#32
  let v142 : BitVec 32 := Scalar.divsi v140 c1_i32_59
  let v143 : BitVec 32 := Scalar.muli v142 c1_i32_59
  let v144 : BitVec 32 := Scalar.addi c0_i32_58 v143
  let c1_i32_61 : BitVec 32 := 1#32
  let arg15 : BitVec 32 := Scf.iv v144 c1_i32_61 k0_t2
  let c256_i32_141 : BitVec 32 := 256#32
  let v326 : BitVec 32 := Scalar.muli arg15 c256_i32_141
  let v327 : BitVec 32 := v326
  let v328 : Index := Scalar.indexCast v327
  let c0_144 : Index := 0#32
  ![0, 0, v328.toNat, 0]
def k0_off5 (v1 : BitVec 32) (k0_t2 : Fin (k0_t2_loop v1).trips) : Fin 3 → Nat :=
  let c0_145 : Index := 0#32
  let c0_146 : Index := 0#32
  let c0_i32_58 : BitVec 32 := 0#32
  let c255_i32_57 : BitVec 32 := 255#32
  let v138 : BitVec 32 := Scalar.addi v1 c255_i32_57
  let c256_i32 : BitVec 32 := 256#32
  let v139 : BitVec 32 := Scalar.divsi v138 c256_i32
  let v140 : BitVec 32 := Scalar.subi v139 c0_i32_58
  let c1_i32_59 : BitVec 32 := 1#32
  let v142 : BitVec 32 := Scalar.divsi v140 c1_i32_59
  let v143 : BitVec 32 := Scalar.muli v142 c1_i32_59
  let v144 : BitVec 32 := Scalar.addi c0_i32_58 v143
  let c1_i32_61 : BitVec 32 := 1#32
  let arg15 : BitVec 32 := Scf.iv v144 c1_i32_61 k0_t2
  let c256_i32_141 : BitVec 32 := 256#32
  let v326 : BitVec 32 := Scalar.muli arg15 c256_i32_141
  let v327 : BitVec 32 := v326
  let v332 : Index := Scalar.indexCast v327
  ![0, 0, v332.toNat]
@[reducible] def k0_t3_loop (v1 : BitVec 32) : Scf.Loop 32 :=
  let c0_i32_64 : BitVec 32 := 0#32
  let c255_i32_57 : BitVec 32 := 255#32
  let v138 : BitVec 32 := Scalar.addi v1 c255_i32_57
  let c256_i32 : BitVec 32 := 256#32
  let v139 : BitVec 32 := Scalar.divsi v138 c256_i32
  let v156 : BitVec 32 := Scalar.subi v139 c0_i32_64
  let c1_i32_65 : BitVec 32 := 1#32
  let v158 : BitVec 32 := Scalar.divsi v156 c1_i32_65
  let v159 : BitVec 32 := Scalar.muli v158 c1_i32_65
  let v160 : BitVec 32 := Scalar.addi c0_i32_64 v159
  let c1_i32_66 : BitVec 32 := 1#32
  ⟨c0_i32_64, v160, c1_i32_66⟩
def k0_mult3 (v1 : BitVec 32) (k0_t3 : Fin (k0_t3_loop v1).trips) : BitVec 32 :=
  let c0_i32_64 : BitVec 32 := 0#32
  let c1_i32_66 : BitVec 32 := 1#32
  let arg15 : BitVec 32 := Scf.iv c0_i32_64 c1_i32_66 k0_t3
  let c256_i32_141 : BitVec 32 := 256#32
  let v326 : BitVec 32 := Scalar.muli arg15 c256_i32_141
  v326
def k0_off6 (v1 : BitVec 32) (k0_t3 : Fin (k0_t3_loop v1).trips) : Fin 4 → Nat :=
  let c0_142 : Index := 0#32
  let c0_143 : Index := 0#32
  let c0_i32_64 : BitVec 32 := 0#32
  let c1_i32_66 : BitVec 32 := 1#32
  let arg15 : BitVec 32 := Scf.iv c0_i32_64 c1_i32_66 k0_t3
  let c256_i32_141 : BitVec 32 := 256#32
  let v326 : BitVec 32 := Scalar.muli arg15 c256_i32_141
  let v327 : BitVec 32 := v326
  let v328 : Index := Scalar.indexCast v327
  let c0_144 : Index := 0#32
  ![0, 0, v328.toNat, 0]
def k0_off7 (v1 : BitVec 32) (k0_t3 : Fin (k0_t3_loop v1).trips) : Fin 3 → Nat :=
  let c0_145 : Index := 0#32
  let c0_146 : Index := 0#32
  let c0_i32_64 : BitVec 32 := 0#32
  let c1_i32_66 : BitVec 32 := 1#32
  let arg15 : BitVec 32 := Scf.iv c0_i32_64 c1_i32_66 k0_t3
  let c256_i32_141 : BitVec 32 := 256#32
  let v326 : BitVec 32 := Scalar.muli arg15 c256_i32_141
  let v327 : BitVec 32 := v326
  let v332 : Index := Scalar.indexCast v327
  ![0, 0, v332.toNat]
def k0_mult4 (v1 : BitVec 32) (k0_t3 : Fin (k0_t3_loop v1).trips) : BitVec 32 :=
  let c0_i32_64 : BitVec 32 := 0#32
  let c1_i32_66 : BitVec 32 := 1#32
  let arg15 : BitVec 32 := Scf.iv c0_i32_64 c1_i32_66 k0_t3
  let c256_i32_147 : BitVec 32 := 256#32
  let v339 : BitVec 32 := Scalar.muli arg15 c256_i32_147
  v339
@[reducible] def k0_t4_loop (v1 : BitVec 32) : Scf.Loop 32 :=
  let c0_i32_64 : BitVec 32 := 0#32
  let c255_i32_57 : BitVec 32 := 255#32
  let v138 : BitVec 32 := Scalar.addi v1 c255_i32_57
  let c256_i32 : BitVec 32 := 256#32
  let v139 : BitVec 32 := Scalar.divsi v138 c256_i32
  let v156 : BitVec 32 := Scalar.subi v139 c0_i32_64
  let c1_i32_65 : BitVec 32 := 1#32
  let v158 : BitVec 32 := Scalar.divsi v156 c1_i32_65
  let v159 : BitVec 32 := Scalar.muli v158 c1_i32_65
  let v160 : BitVec 32 := Scalar.addi c0_i32_64 v159
  let v157 : BitVec 32 := Scalar.addi c0_i32_64 v156
  let c1_i32_67 : BitVec 32 := 1#32
  ⟨v160, v157, c1_i32_67⟩
def k0_mult5 (v1 : BitVec 32) (k0_t4 : Fin (k0_t4_loop v1).trips) : BitVec 32 :=
  let c0_i32_64 : BitVec 32 := 0#32
  let c255_i32_57 : BitVec 32 := 255#32
  let v138 : BitVec 32 := Scalar.addi v1 c255_i32_57
  let c256_i32 : BitVec 32 := 256#32
  let v139 : BitVec 32 := Scalar.divsi v138 c256_i32
  let v156 : BitVec 32 := Scalar.subi v139 c0_i32_64
  let c1_i32_65 : BitVec 32 := 1#32
  let v158 : BitVec 32 := Scalar.divsi v156 c1_i32_65
  let v159 : BitVec 32 := Scalar.muli v158 c1_i32_65
  let v160 : BitVec 32 := Scalar.addi c0_i32_64 v159
  let c1_i32_67 : BitVec 32 := 1#32
  let arg15 : BitVec 32 := Scf.iv v160 c1_i32_67 k0_t4
  let c256_i32_141 : BitVec 32 := 256#32
  let v326 : BitVec 32 := Scalar.muli arg15 c256_i32_141
  v326
def k0_off8 (v1 : BitVec 32) (k0_t4 : Fin (k0_t4_loop v1).trips) : Fin 4 → Nat :=
  let c0_142 : Index := 0#32
  let c0_143 : Index := 0#32
  let c0_i32_64 : BitVec 32 := 0#32
  let c255_i32_57 : BitVec 32 := 255#32
  let v138 : BitVec 32 := Scalar.addi v1 c255_i32_57
  let c256_i32 : BitVec 32 := 256#32
  let v139 : BitVec 32 := Scalar.divsi v138 c256_i32
  let v156 : BitVec 32 := Scalar.subi v139 c0_i32_64
  let c1_i32_65 : BitVec 32 := 1#32
  let v158 : BitVec 32 := Scalar.divsi v156 c1_i32_65
  let v159 : BitVec 32 := Scalar.muli v158 c1_i32_65
  let v160 : BitVec 32 := Scalar.addi c0_i32_64 v159
  let c1_i32_67 : BitVec 32 := 1#32
  let arg15 : BitVec 32 := Scf.iv v160 c1_i32_67 k0_t4
  let c256_i32_141 : BitVec 32 := 256#32
  let v326 : BitVec 32 := Scalar.muli arg15 c256_i32_141
  let v327 : BitVec 32 := v326
  let v328 : Index := Scalar.indexCast v327
  let c0_144 : Index := 0#32
  ![0, 0, v328.toNat, 0]
def k0_off9 (v1 : BitVec 32) (k0_t4 : Fin (k0_t4_loop v1).trips) : Fin 3 → Nat :=
  let c0_145 : Index := 0#32
  let c0_146 : Index := 0#32
  let c0_i32_64 : BitVec 32 := 0#32
  let c255_i32_57 : BitVec 32 := 255#32
  let v138 : BitVec 32 := Scalar.addi v1 c255_i32_57
  let c256_i32 : BitVec 32 := 256#32
  let v139 : BitVec 32 := Scalar.divsi v138 c256_i32
  let v156 : BitVec 32 := Scalar.subi v139 c0_i32_64
  let c1_i32_65 : BitVec 32 := 1#32
  let v158 : BitVec 32 := Scalar.divsi v156 c1_i32_65
  let v159 : BitVec 32 := Scalar.muli v158 c1_i32_65
  let v160 : BitVec 32 := Scalar.addi c0_i32_64 v159
  let c1_i32_67 : BitVec 32 := 1#32
  let arg15 : BitVec 32 := Scf.iv v160 c1_i32_67 k0_t4
  let c256_i32_141 : BitVec 32 := 256#32
  let v326 : BitVec 32 := Scalar.muli arg15 c256_i32_141
  let v327 : BitVec 32 := v326
  let v332 : Index := Scalar.indexCast v327
  ![0, 0, v332.toNat]
def k0_mult6 (v1 : BitVec 32) (k0_t4 : Fin (k0_t4_loop v1).trips) : BitVec 32 :=
  let c0_i32_64 : BitVec 32 := 0#32
  let c255_i32_57 : BitVec 32 := 255#32
  let v138 : BitVec 32 := Scalar.addi v1 c255_i32_57
  let c256_i32 : BitVec 32 := 256#32
  let v139 : BitVec 32 := Scalar.divsi v138 c256_i32
  let v156 : BitVec 32 := Scalar.subi v139 c0_i32_64
  let c1_i32_65 : BitVec 32 := 1#32
  let v158 : BitVec 32 := Scalar.divsi v156 c1_i32_65
  let v159 : BitVec 32 := Scalar.muli v158 c1_i32_65
  let v160 : BitVec 32 := Scalar.addi c0_i32_64 v159
  let c1_i32_67 : BitVec 32 := 1#32
  let arg15 : BitVec 32 := Scf.iv v160 c1_i32_67 k0_t4
  let c256_i32_147 : BitVec 32 := 256#32
  let v339 : BitVec 32 := Scalar.muli arg15 c256_i32_147
  v339
@[reducible] def k0_t5_loop (v1 : BitVec 32) : Scf.Loop 32 :=
  let c0_i32_127 : BitVec 32 := 0#32
  let c255_i32_125 : BitVec 32 := 255#32
  let v295 : BitVec 32 := Scalar.addi v1 c255_i32_125
  let c256_i32_126 : BitVec 32 := 256#32
  let v296 : BitVec 32 := Scalar.divsi v295 c256_i32_126
  let v297 : BitVec 32 := Scalar.subi v296 c0_i32_127
  let c1_i32_128 : BitVec 32 := 1#32
  let v299 : BitVec 32 := Scalar.divsi v297 c1_i32_128
  let v300 : BitVec 32 := Scalar.muli v299 c1_i32_128
  let v301 : BitVec 32 := Scalar.addi c0_i32_127 v300
  let c1_i32_129 : BitVec 32 := 1#32
  ⟨c0_i32_127, v301, c1_i32_129⟩
def k0_mult7 (v1 : BitVec 32) (k0_t5 : Fin (k0_t5_loop v1).trips) : BitVec 32 :=
  let c0_i32_127 : BitVec 32 := 0#32
  let c1_i32_129 : BitVec 32 := 1#32
  let arg15 : BitVec 32 := Scf.iv c0_i32_127 c1_i32_129 k0_t5
  let c256_i32_141 : BitVec 32 := 256#32
  let v326 : BitVec 32 := Scalar.muli arg15 c256_i32_141
  v326
def k0_off10 (v1 : BitVec 32) (k0_t5 : Fin (k0_t5_loop v1).trips) : Fin 4 → Nat :=
  let c0_142 : Index := 0#32
  let c1_143 : Index := 1#32
  let c0_i32_127 : BitVec 32 := 0#32
  let c1_i32_129 : BitVec 32 := 1#32
  let arg15 : BitVec 32 := Scf.iv c0_i32_127 c1_i32_129 k0_t5
  let c256_i32_141 : BitVec 32 := 256#32
  let v326 : BitVec 32 := Scalar.muli arg15 c256_i32_141
  let v327 : BitVec 32 := v326
  let v328 : Index := Scalar.indexCast v327
  let c0_144 : Index := 0#32
  ![0, 1, v328.toNat, 0]
def k0_off11 (v1 : BitVec 32) (k0_t5 : Fin (k0_t5_loop v1).trips) : Fin 3 → Nat :=
  let c0_145 : Index := 0#32
  let c1_146 : Index := 1#32
  let c0_i32_127 : BitVec 32 := 0#32
  let c1_i32_129 : BitVec 32 := 1#32
  let arg15 : BitVec 32 := Scf.iv c0_i32_127 c1_i32_129 k0_t5
  let c256_i32_141 : BitVec 32 := 256#32
  let v326 : BitVec 32 := Scalar.muli arg15 c256_i32_141
  let v327 : BitVec 32 := v326
  let v332 : Index := Scalar.indexCast v327
  ![0, 1, v332.toNat]
@[reducible] def k0_t6_loop (v1 : BitVec 32) : Scf.Loop 32 :=
  let c0_i32_127 : BitVec 32 := 0#32
  let c255_i32_125 : BitVec 32 := 255#32
  let v295 : BitVec 32 := Scalar.addi v1 c255_i32_125
  let c256_i32_126 : BitVec 32 := 256#32
  let v296 : BitVec 32 := Scalar.divsi v295 c256_i32_126
  let v297 : BitVec 32 := Scalar.subi v296 c0_i32_127
  let c1_i32_128 : BitVec 32 := 1#32
  let v299 : BitVec 32 := Scalar.divsi v297 c1_i32_128
  let v300 : BitVec 32 := Scalar.muli v299 c1_i32_128
  let v301 : BitVec 32 := Scalar.addi c0_i32_127 v300
  let v298 : BitVec 32 := Scalar.addi c0_i32_127 v297
  let c1_i32_130 : BitVec 32 := 1#32
  ⟨v301, v298, c1_i32_130⟩
def k0_mult8 (v1 : BitVec 32) (k0_t6 : Fin (k0_t6_loop v1).trips) : BitVec 32 :=
  let c0_i32_127 : BitVec 32 := 0#32
  let c255_i32_125 : BitVec 32 := 255#32
  let v295 : BitVec 32 := Scalar.addi v1 c255_i32_125
  let c256_i32_126 : BitVec 32 := 256#32
  let v296 : BitVec 32 := Scalar.divsi v295 c256_i32_126
  let v297 : BitVec 32 := Scalar.subi v296 c0_i32_127
  let c1_i32_128 : BitVec 32 := 1#32
  let v299 : BitVec 32 := Scalar.divsi v297 c1_i32_128
  let v300 : BitVec 32 := Scalar.muli v299 c1_i32_128
  let v301 : BitVec 32 := Scalar.addi c0_i32_127 v300
  let c1_i32_130 : BitVec 32 := 1#32
  let arg15 : BitVec 32 := Scf.iv v301 c1_i32_130 k0_t6
  let c256_i32_141 : BitVec 32 := 256#32
  let v326 : BitVec 32 := Scalar.muli arg15 c256_i32_141
  v326
def k0_off12 (v1 : BitVec 32) (k0_t6 : Fin (k0_t6_loop v1).trips) : Fin 4 → Nat :=
  let c0_142 : Index := 0#32
  let c1_143 : Index := 1#32
  let c0_i32_127 : BitVec 32 := 0#32
  let c255_i32_125 : BitVec 32 := 255#32
  let v295 : BitVec 32 := Scalar.addi v1 c255_i32_125
  let c256_i32_126 : BitVec 32 := 256#32
  let v296 : BitVec 32 := Scalar.divsi v295 c256_i32_126
  let v297 : BitVec 32 := Scalar.subi v296 c0_i32_127
  let c1_i32_128 : BitVec 32 := 1#32
  let v299 : BitVec 32 := Scalar.divsi v297 c1_i32_128
  let v300 : BitVec 32 := Scalar.muli v299 c1_i32_128
  let v301 : BitVec 32 := Scalar.addi c0_i32_127 v300
  let c1_i32_130 : BitVec 32 := 1#32
  let arg15 : BitVec 32 := Scf.iv v301 c1_i32_130 k0_t6
  let c256_i32_141 : BitVec 32 := 256#32
  let v326 : BitVec 32 := Scalar.muli arg15 c256_i32_141
  let v327 : BitVec 32 := v326
  let v328 : Index := Scalar.indexCast v327
  let c0_144 : Index := 0#32
  ![0, 1, v328.toNat, 0]
def k0_off13 (v1 : BitVec 32) (k0_t6 : Fin (k0_t6_loop v1).trips) : Fin 3 → Nat :=
  let c0_145 : Index := 0#32
  let c1_146 : Index := 1#32
  let c0_i32_127 : BitVec 32 := 0#32
  let c255_i32_125 : BitVec 32 := 255#32
  let v295 : BitVec 32 := Scalar.addi v1 c255_i32_125
  let c256_i32_126 : BitVec 32 := 256#32
  let v296 : BitVec 32 := Scalar.divsi v295 c256_i32_126
  let v297 : BitVec 32 := Scalar.subi v296 c0_i32_127
  let c1_i32_128 : BitVec 32 := 1#32
  let v299 : BitVec 32 := Scalar.divsi v297 c1_i32_128
  let v300 : BitVec 32 := Scalar.muli v299 c1_i32_128
  let v301 : BitVec 32 := Scalar.addi c0_i32_127 v300
  let c1_i32_130 : BitVec 32 := 1#32
  let arg15 : BitVec 32 := Scf.iv v301 c1_i32_130 k0_t6
  let c256_i32_141 : BitVec 32 := 256#32
  let v326 : BitVec 32 := Scalar.muli arg15 c256_i32_141
  let v327 : BitVec 32 := v326
  let v332 : Index := Scalar.indexCast v327
  ![0, 1, v332.toNat]
@[reducible] def k0_t7_loop (v1 : BitVec 32) : Scf.Loop 32 :=
  let c0_i32_133 : BitVec 32 := 0#32
  let c255_i32_125 : BitVec 32 := 255#32
  let v295 : BitVec 32 := Scalar.addi v1 c255_i32_125
  let c256_i32_126 : BitVec 32 := 256#32
  let v296 : BitVec 32 := Scalar.divsi v295 c256_i32_126
  let v313 : BitVec 32 := Scalar.subi v296 c0_i32_133
  let c1_i32_134 : BitVec 32 := 1#32
  let v315 : BitVec 32 := Scalar.divsi v313 c1_i32_134
  let v316 : BitVec 32 := Scalar.muli v315 c1_i32_134
  let v317 : BitVec 32 := Scalar.addi c0_i32_133 v316
  let c1_i32_135 : BitVec 32 := 1#32
  ⟨c0_i32_133, v317, c1_i32_135⟩
def k0_mult9 (v1 : BitVec 32) (k0_t7 : Fin (k0_t7_loop v1).trips) : BitVec 32 :=
  let c0_i32_133 : BitVec 32 := 0#32
  let c1_i32_135 : BitVec 32 := 1#32
  let arg15 : BitVec 32 := Scf.iv c0_i32_133 c1_i32_135 k0_t7
  let c256_i32_141 : BitVec 32 := 256#32
  let v326 : BitVec 32 := Scalar.muli arg15 c256_i32_141
  v326
def k0_off14 (v1 : BitVec 32) (k0_t7 : Fin (k0_t7_loop v1).trips) : Fin 4 → Nat :=
  let c0_142 : Index := 0#32
  let c1_143 : Index := 1#32
  let c0_i32_133 : BitVec 32 := 0#32
  let c1_i32_135 : BitVec 32 := 1#32
  let arg15 : BitVec 32 := Scf.iv c0_i32_133 c1_i32_135 k0_t7
  let c256_i32_141 : BitVec 32 := 256#32
  let v326 : BitVec 32 := Scalar.muli arg15 c256_i32_141
  let v327 : BitVec 32 := v326
  let v328 : Index := Scalar.indexCast v327
  let c0_144 : Index := 0#32
  ![0, 1, v328.toNat, 0]
def k0_off15 (v1 : BitVec 32) (k0_t7 : Fin (k0_t7_loop v1).trips) : Fin 3 → Nat :=
  let c0_145 : Index := 0#32
  let c1_146 : Index := 1#32
  let c0_i32_133 : BitVec 32 := 0#32
  let c1_i32_135 : BitVec 32 := 1#32
  let arg15 : BitVec 32 := Scf.iv c0_i32_133 c1_i32_135 k0_t7
  let c256_i32_141 : BitVec 32 := 256#32
  let v326 : BitVec 32 := Scalar.muli arg15 c256_i32_141
  let v327 : BitVec 32 := v326
  let v332 : Index := Scalar.indexCast v327
  ![0, 1, v332.toNat]
def k0_mult10 (v1 : BitVec 32) (k0_t7 : Fin (k0_t7_loop v1).trips) : BitVec 32 :=
  let c0_i32_133 : BitVec 32 := 0#32
  let c1_i32_135 : BitVec 32 := 1#32
  let arg15 : BitVec 32 := Scf.iv c0_i32_133 c1_i32_135 k0_t7
  let c256_i32_147 : BitVec 32 := 256#32
  let v339 : BitVec 32 := Scalar.muli arg15 c256_i32_147
  v339
@[reducible] def k0_t8_loop (v1 : BitVec 32) : Scf.Loop 32 :=
  let c0_i32_133 : BitVec 32 := 0#32
  let c255_i32_125 : BitVec 32 := 255#32
  let v295 : BitVec 32 := Scalar.addi v1 c255_i32_125
  let c256_i32_126 : BitVec 32 := 256#32
  let v296 : BitVec 32 := Scalar.divsi v295 c256_i32_126
  let v313 : BitVec 32 := Scalar.subi v296 c0_i32_133
  let c1_i32_134 : BitVec 32 := 1#32
  let v315 : BitVec 32 := Scalar.divsi v313 c1_i32_134
  let v316 : BitVec 32 := Scalar.muli v315 c1_i32_134
  let v317 : BitVec 32 := Scalar.addi c0_i32_133 v316
  let v314 : BitVec 32 := Scalar.addi c0_i32_133 v313
  let c1_i32_136 : BitVec 32 := 1#32
  ⟨v317, v314, c1_i32_136⟩
def k0_mult11 (v1 : BitVec 32) (k0_t8 : Fin (k0_t8_loop v1).trips) : BitVec 32 :=
  let c0_i32_133 : BitVec 32 := 0#32
  let c255_i32_125 : BitVec 32 := 255#32
  let v295 : BitVec 32 := Scalar.addi v1 c255_i32_125
  let c256_i32_126 : BitVec 32 := 256#32
  let v296 : BitVec 32 := Scalar.divsi v295 c256_i32_126
  let v313 : BitVec 32 := Scalar.subi v296 c0_i32_133
  let c1_i32_134 : BitVec 32 := 1#32
  let v315 : BitVec 32 := Scalar.divsi v313 c1_i32_134
  let v316 : BitVec 32 := Scalar.muli v315 c1_i32_134
  let v317 : BitVec 32 := Scalar.addi c0_i32_133 v316
  let c1_i32_136 : BitVec 32 := 1#32
  let arg15 : BitVec 32 := Scf.iv v317 c1_i32_136 k0_t8
  let c256_i32_141 : BitVec 32 := 256#32
  let v326 : BitVec 32 := Scalar.muli arg15 c256_i32_141
  v326
def k0_off16 (v1 : BitVec 32) (k0_t8 : Fin (k0_t8_loop v1).trips) : Fin 4 → Nat :=
  let c0_142 : Index := 0#32
  let c1_143 : Index := 1#32
  let c0_i32_133 : BitVec 32 := 0#32
  let c255_i32_125 : BitVec 32 := 255#32
  let v295 : BitVec 32 := Scalar.addi v1 c255_i32_125
  let c256_i32_126 : BitVec 32 := 256#32
  let v296 : BitVec 32 := Scalar.divsi v295 c256_i32_126
  let v313 : BitVec 32 := Scalar.subi v296 c0_i32_133
  let c1_i32_134 : BitVec 32 := 1#32
  let v315 : BitVec 32 := Scalar.divsi v313 c1_i32_134
  let v316 : BitVec 32 := Scalar.muli v315 c1_i32_134
  let v317 : BitVec 32 := Scalar.addi c0_i32_133 v316
  let c1_i32_136 : BitVec 32 := 1#32
  let arg15 : BitVec 32 := Scf.iv v317 c1_i32_136 k0_t8
  let c256_i32_141 : BitVec 32 := 256#32
  let v326 : BitVec 32 := Scalar.muli arg15 c256_i32_141
  let v327 : BitVec 32 := v326
  let v328 : Index := Scalar.indexCast v327
  let c0_144 : Index := 0#32
  ![0, 1, v328.toNat, 0]
def k0_off17 (v1 : BitVec 32) (k0_t8 : Fin (k0_t8_loop v1).trips) : Fin 3 → Nat :=
  let c0_145 : Index := 0#32
  let c1_146 : Index := 1#32
  let c0_i32_133 : BitVec 32 := 0#32
  let c255_i32_125 : BitVec 32 := 255#32
  let v295 : BitVec 32 := Scalar.addi v1 c255_i32_125
  let c256_i32_126 : BitVec 32 := 256#32
  let v296 : BitVec 32 := Scalar.divsi v295 c256_i32_126
  let v313 : BitVec 32 := Scalar.subi v296 c0_i32_133
  let c1_i32_134 : BitVec 32 := 1#32
  let v315 : BitVec 32 := Scalar.divsi v313 c1_i32_134
  let v316 : BitVec 32 := Scalar.muli v315 c1_i32_134
  let v317 : BitVec 32 := Scalar.addi c0_i32_133 v316
  let c1_i32_136 : BitVec 32 := 1#32
  let arg15 : BitVec 32 := Scf.iv v317 c1_i32_136 k0_t8
  let c256_i32_141 : BitVec 32 := 256#32
  let v326 : BitVec 32 := Scalar.muli arg15 c256_i32_141
  let v327 : BitVec 32 := v326
  let v332 : Index := Scalar.indexCast v327
  ![0, 1, v332.toNat]
def k0_mult12 (v1 : BitVec 32) (k0_t8 : Fin (k0_t8_loop v1).trips) : BitVec 32 :=
  let c0_i32_133 : BitVec 32 := 0#32
  let c255_i32_125 : BitVec 32 := 255#32
  let v295 : BitVec 32 := Scalar.addi v1 c255_i32_125
  let c256_i32_126 : BitVec 32 := 256#32
  let v296 : BitVec 32 := Scalar.divsi v295 c256_i32_126
  let v313 : BitVec 32 := Scalar.subi v296 c0_i32_133
  let c1_i32_134 : BitVec 32 := 1#32
  let v315 : BitVec 32 := Scalar.divsi v313 c1_i32_134
  let v316 : BitVec 32 := Scalar.muli v315 c1_i32_134
  let v317 : BitVec 32 := Scalar.addi c0_i32_133 v316
  let c1_i32_136 : BitVec 32 := 1#32
  let arg15 : BitVec 32 := Scf.iv v317 c1_i32_136 k0_t8
  let c256_i32_147 : BitVec 32 := 256#32
  let v339 : BitVec 32 := Scalar.muli arg15 c256_i32_147
  v339

def k0_chk1_0 (v1 : BitVec 32) : Prop :=
  ((k0_t1_loop v1).OK) ∧
  (∀ k0_t1 : Fin (k0_t1_loop v1).trips, 256 ∣ (k0_mult1 v1 k0_t1).toNat) ∧
  (∀ k0_t1 : Fin (k0_t1_loop v1).trips, ∀ a, (k0_off2 v1 k0_t1) a + S1x1x256x128.size a ≤ S1x2x2048x128.size a) ∧
  (∀ k0_t1 : Fin (k0_t1_loop v1).trips, ∀ a, (k0_off3 v1 k0_t1) a + S1x1x256.size a ≤ S1x2x2048.size a) ∧
  ((k0_t2_loop v1).OK) ∧
  (∀ k0_t2 : Fin (k0_t2_loop v1).trips, 256 ∣ (k0_mult2 v1 k0_t2).toNat) ∧
  (∀ k0_t2 : Fin (k0_t2_loop v1).trips, ∀ a, (k0_off4 v1 k0_t2) a + S1x1x256x128.size a ≤ S1x2x2048x128.size a) ∧
  (∀ k0_t2 : Fin (k0_t2_loop v1).trips, ∀ a, (k0_off5 v1 k0_t2) a + S1x1x256.size a ≤ S1x2x2048.size a) ∧
  ((k0_t3_loop v1).OK) ∧
  (∀ k0_t3 : Fin (k0_t3_loop v1).trips, 256 ∣ (k0_mult3 v1 k0_t3).toNat) ∧
  (∀ k0_t3 : Fin (k0_t3_loop v1).trips, ∀ a, (k0_off6 v1 k0_t3) a + S1x1x256x128.size a ≤ S1x2x2048x128.size a) ∧
  (∀ k0_t3 : Fin (k0_t3_loop v1).trips, ∀ a, (k0_off7 v1 k0_t3) a + S1x1x256.size a ≤ S1x2x2048.size a) ∧
  (∀ k0_t3 : Fin (k0_t3_loop v1).trips, 256 ∣ (k0_mult4 v1 k0_t3).toNat) ∧
  ((k0_t4_loop v1).OK) ∧
  (∀ k0_t4 : Fin (k0_t4_loop v1).trips, 256 ∣ (k0_mult5 v1 k0_t4).toNat) ∧
  (∀ k0_t4 : Fin (k0_t4_loop v1).trips, ∀ a, (k0_off8 v1 k0_t4) a + S1x1x256x128.size a ≤ S1x2x2048x128.size a) ∧
  (∀ k0_t4 : Fin (k0_t4_loop v1).trips, ∀ a, (k0_off9 v1 k0_t4) a + S1x1x256.size a ≤ S1x2x2048.size a) ∧
  (∀ k0_t4 : Fin (k0_t4_loop v1).trips, 256 ∣ (k0_mult6 v1 k0_t4).toNat) ∧
  ((k0_t5_loop v1).OK) ∧
  (∀ k0_t5 : Fin (k0_t5_loop v1).trips, 256 ∣ (k0_mult7 v1 k0_t5).toNat) ∧
  (∀ k0_t5 : Fin (k0_t5_loop v1).trips, ∀ a, (k0_off10 v1 k0_t5) a + S1x1x256x128.size a ≤ S1x2x2048x128.size a) ∧
  (∀ k0_t5 : Fin (k0_t5_loop v1).trips, ∀ a, (k0_off11 v1 k0_t5) a + S1x1x256.size a ≤ S1x2x2048.size a) ∧
  ((k0_t6_loop v1).OK) ∧
  (∀ k0_t6 : Fin (k0_t6_loop v1).trips, 256 ∣ (k0_mult8 v1 k0_t6).toNat) ∧
  (∀ k0_t6 : Fin (k0_t6_loop v1).trips, ∀ a, (k0_off12 v1 k0_t6) a + S1x1x256x128.size a ≤ S1x2x2048x128.size a) ∧
  (∀ k0_t6 : Fin (k0_t6_loop v1).trips, ∀ a, (k0_off13 v1 k0_t6) a + S1x1x256.size a ≤ S1x2x2048.size a) ∧
  ((k0_t7_loop v1).OK) ∧
  (∀ k0_t7 : Fin (k0_t7_loop v1).trips, 256 ∣ (k0_mult9 v1 k0_t7).toNat) ∧
  (∀ k0_t7 : Fin (k0_t7_loop v1).trips, ∀ a, (k0_off14 v1 k0_t7) a + S1x1x256x128.size a ≤ S1x2x2048x128.size a) ∧
  (∀ k0_t7 : Fin (k0_t7_loop v1).trips, ∀ a, (k0_off15 v1 k0_t7) a + S1x1x256.size a ≤ S1x2x2048.size a) ∧
  (∀ k0_t7 : Fin (k0_t7_loop v1).trips, 256 ∣ (k0_mult10 v1 k0_t7).toNat) ∧
  ((k0_t8_loop v1).OK)
def k0_chk1_1 (v1 : BitVec 32) : Prop :=
  (∀ k0_t8 : Fin (k0_t8_loop v1).trips, 256 ∣ (k0_mult11 v1 k0_t8).toNat) ∧
  (∀ k0_t8 : Fin (k0_t8_loop v1).trips, ∀ a, (k0_off16 v1 k0_t8) a + S1x1x256x128.size a ≤ S1x2x2048x128.size a) ∧
  (∀ k0_t8 : Fin (k0_t8_loop v1).trips, ∀ a, (k0_off17 v1 k0_t8) a + S1x1x256.size a ≤ S1x2x2048.size a) ∧
  (∀ k0_t8 : Fin (k0_t8_loop v1).trips, 256 ∣ (k0_mult12 v1 k0_t8).toNat)
def k0_chk1 (v1 : BitVec 32) : Prop :=
  k0_chk1_0 v1 ∧
  k0_chk1_1 v1
theorem k0_t1_ok : ∀ (v1 : BitVec 32) (k0_hw1 : k0_chk1 v1), (k0_t1_loop v1).OK := fun v1 k0_hw1 => k0_hw1.1.1
theorem k0_mult1_dvd : ∀ (v1 : BitVec 32) (k0_hw1 : k0_chk1 v1) (k0_t1 : Fin (k0_t1_loop v1).trips), 256 ∣ (k0_mult1 v1 k0_t1).toNat := fun v1 k0_hw1 k0_t1 => k0_hw1.1.2.1 k0_t1
theorem k0_off2_inb : ∀ (v1 : BitVec 32) (k0_hw1 : k0_chk1 v1) (k0_t1 : Fin (k0_t1_loop v1).trips), ∀ a, (k0_off2 v1 k0_t1) a + S1x1x256x128.size a ≤ S1x2x2048x128.size a := fun v1 k0_hw1 k0_t1 => k0_hw1.1.2.2.1 k0_t1
theorem k0_off3_inb : ∀ (v1 : BitVec 32) (k0_hw1 : k0_chk1 v1) (k0_t1 : Fin (k0_t1_loop v1).trips), ∀ a, (k0_off3 v1 k0_t1) a + S1x1x256.size a ≤ S1x2x2048.size a := fun v1 k0_hw1 k0_t1 => k0_hw1.1.2.2.2.1 k0_t1
theorem k0_t2_ok : ∀ (v1 : BitVec 32) (k0_hw1 : k0_chk1 v1), (k0_t2_loop v1).OK := fun v1 k0_hw1 => k0_hw1.1.2.2.2.2.1
theorem k0_mult2_dvd : ∀ (v1 : BitVec 32) (k0_hw1 : k0_chk1 v1) (k0_t2 : Fin (k0_t2_loop v1).trips), 256 ∣ (k0_mult2 v1 k0_t2).toNat := fun v1 k0_hw1 k0_t2 => k0_hw1.1.2.2.2.2.2.1 k0_t2
theorem k0_off4_inb : ∀ (v1 : BitVec 32) (k0_hw1 : k0_chk1 v1) (k0_t2 : Fin (k0_t2_loop v1).trips), ∀ a, (k0_off4 v1 k0_t2) a + S1x1x256x128.size a ≤ S1x2x2048x128.size a := fun v1 k0_hw1 k0_t2 => k0_hw1.1.2.2.2.2.2.2.1 k0_t2
theorem k0_off5_inb : ∀ (v1 : BitVec 32) (k0_hw1 : k0_chk1 v1) (k0_t2 : Fin (k0_t2_loop v1).trips), ∀ a, (k0_off5 v1 k0_t2) a + S1x1x256.size a ≤ S1x2x2048.size a := fun v1 k0_hw1 k0_t2 => k0_hw1.1.2.2.2.2.2.2.2.1 k0_t2
theorem k0_t3_ok : ∀ (v1 : BitVec 32) (k0_hw1 : k0_chk1 v1), (k0_t3_loop v1).OK := fun v1 k0_hw1 => k0_hw1.1.2.2.2.2.2.2.2.2.1
theorem k0_mult3_dvd : ∀ (v1 : BitVec 32) (k0_hw1 : k0_chk1 v1) (k0_t3 : Fin (k0_t3_loop v1).trips), 256 ∣ (k0_mult3 v1 k0_t3).toNat := fun v1 k0_hw1 k0_t3 => k0_hw1.1.2.2.2.2.2.2.2.2.2.1 k0_t3
theorem k0_off6_inb : ∀ (v1 : BitVec 32) (k0_hw1 : k0_chk1 v1) (k0_t3 : Fin (k0_t3_loop v1).trips), ∀ a, (k0_off6 v1 k0_t3) a + S1x1x256x128.size a ≤ S1x2x2048x128.size a := fun v1 k0_hw1 k0_t3 => k0_hw1.1.2.2.2.2.2.2.2.2.2.2.1 k0_t3
theorem k0_off7_inb : ∀ (v1 : BitVec 32) (k0_hw1 : k0_chk1 v1) (k0_t3 : Fin (k0_t3_loop v1).trips), ∀ a, (k0_off7 v1 k0_t3) a + S1x1x256.size a ≤ S1x2x2048.size a := fun v1 k0_hw1 k0_t3 => k0_hw1.1.2.2.2.2.2.2.2.2.2.2.2.1 k0_t3
theorem k0_mult4_dvd : ∀ (v1 : BitVec 32) (k0_hw1 : k0_chk1 v1) (k0_t3 : Fin (k0_t3_loop v1).trips), 256 ∣ (k0_mult4 v1 k0_t3).toNat := fun v1 k0_hw1 k0_t3 => k0_hw1.1.2.2.2.2.2.2.2.2.2.2.2.2.1 k0_t3
theorem k0_t4_ok : ∀ (v1 : BitVec 32) (k0_hw1 : k0_chk1 v1), (k0_t4_loop v1).OK := fun v1 k0_hw1 => k0_hw1.1.2.2.2.2.2.2.2.2.2.2.2.2.2.1
theorem k0_mult5_dvd : ∀ (v1 : BitVec 32) (k0_hw1 : k0_chk1 v1) (k0_t4 : Fin (k0_t4_loop v1).trips), 256 ∣ (k0_mult5 v1 k0_t4).toNat := fun v1 k0_hw1 k0_t4 => k0_hw1.1.2.2.2.2.2.2.2.2.2.2.2.2.2.2.1 k0_t4
theorem k0_off8_inb : ∀ (v1 : BitVec 32) (k0_hw1 : k0_chk1 v1) (k0_t4 : Fin (k0_t4_loop v1).trips), ∀ a, (k0_off8 v1 k0_t4) a + S1x1x256x128.size a ≤ S1x2x2048x128.size a := fun v1 k0_hw1 k0_t4 => k0_hw1.1.2.2.2.2.2.2.2.2.2.2.2.2.2.2.2.1 k0_t4
theorem k0_off9_inb : ∀ (v1 : BitVec 32) (k0_hw1 : k0_chk1 v1) (k0_t4 : Fin (k0_t4_loop v1).trips), ∀ a, (k0_off9 v1 k0_t4) a + S1x1x256.size a ≤ S1x2x2048.size a := fun v1 k0_hw1 k0_t4 => k0_hw1.1.2.2.2.2.2.2.2.2.2.2.2.2.2.2.2.2.1 k0_t4
theorem k0_mult6_dvd : ∀ (v1 : BitVec 32) (k0_hw1 : k0_chk1 v1) (k0_t4 : Fin (k0_t4_loop v1).trips), 256 ∣ (k0_mult6 v1 k0_t4).toNat := fun v1 k0_hw1 k0_t4 => k0_hw1.1.2.2.2.2.2.2.2.2.2.2.2.2.2.2.2.2.2.1 k0_t4
theorem k0_t5_ok : ∀ (v1 : BitVec 32) (k0_hw1 : k0_chk1 v1), (k0_t5_loop v1).OK := fun v1 k0_hw1 => k0_hw1.1.2.2.2.2.2.2.2.2.2.2.2.2.2.2.2.2.2.2.1
theorem k0_mult7_dvd : ∀ (v1 : BitVec 32) (k0_hw1 : k0_chk1 v1) (k0_t5 : Fin (k0_t5_loop v1).trips), 256 ∣ (k0_mult7 v1 k0_t5).toNat := fun v1 k0_hw1 k0_t5 => k0_hw1.1.2.2.2.2.2.2.2.2.2.2.2.2.2.2.2.2.2.2.2.1 k0_t5
theorem k0_off10_inb : ∀ (v1 : BitVec 32) (k0_hw1 : k0_chk1 v1) (k0_t5 : Fin (k0_t5_loop v1).trips), ∀ a, (k0_off10 v1 k0_t5) a + S1x1x256x128.size a ≤ S1x2x2048x128.size a := fun v1 k0_hw1 k0_t5 => k0_hw1.1.2.2.2.2.2.2.2.2.2.2.2.2.2.2.2.2.2.2.2.2.1 k0_t5
theorem k0_off11_inb : ∀ (v1 : BitVec 32) (k0_hw1 : k0_chk1 v1) (k0_t5 : Fin (k0_t5_loop v1).trips), ∀ a, (k0_off11 v1 k0_t5) a + S1x1x256.size a ≤ S1x2x2048.size a := fun v1 k0_hw1 k0_t5 => k0_hw1.1.2.2.2.2.2.2.2.2.2.2.2.2.2.2.2.2.2.2.2.2.2.1 k0_t5
theorem k0_t6_ok : ∀ (v1 : BitVec 32) (k0_hw1 : k0_chk1 v1), (k0_t6_loop v1).OK := fun v1 k0_hw1 => k0_hw1.1.2.2.2.2.2.2.2.2.2.2.2.2.2.2.2.2.2.2.2.2.2.2.1
theorem k0_mult8_dvd : ∀ (v1 : BitVec 32) (k0_hw1 : k0_chk1 v1) (k0_t6 : Fin (k0_t6_loop v1).trips), 256 ∣ (k0_mult8 v1 k0_t6).toNat := fun v1 k0_hw1 k0_t6 => k0_hw1.1.2.2.2.2.2.2.2.2.2.2.2.2.2.2.2.2.2.2.2.2.2.2.2.1 k0_t6
theorem k0_off12_inb : ∀ (v1 : BitVec 32) (k0_hw1 : k0_chk1 v1) (k0_t6 : Fin (k0_t6_loop v1).trips), ∀ a, (k0_off12 v1 k0_t6) a + S1x1x256x128.size a ≤ S1x2x2048x128.size a := fun v1 k0_hw1 k0_t6 => k0_hw1.1.2.2.2.2.2.2.2.2.2.2.2.2.2.2.2.2.2.2.2.2.2.2.2.2.1 k0_t6
theorem k0_off13_inb : ∀ (v1 : BitVec 32) (k0_hw1 : k0_chk1 v1) (k0_t6 : Fin (k0_t6_loop v1).trips), ∀ a, (k0_off13 v1 k0_t6) a + S1x1x256.size a ≤ S1x2x2048.size a := fun v1 k0_hw1 k0_t6 => k0_hw1.1.2.2.2.2.2.2.2.2.2.2.2.2.2.2.2.2.2.2.2.2.2.2.2.2.2.1 k0_t6
theorem k0_t7_ok : ∀ (v1 : BitVec 32) (k0_hw1 : k0_chk1 v1), (k0_t7_loop v1).OK := fun v1 k0_hw1 => k0_hw1.1.2.2.2.2.2.2.2.2.2.2.2.2.2.2.2.2.2.2.2.2.2.2.2.2.2.2.1
theorem k0_mult9_dvd : ∀ (v1 : BitVec 32) (k0_hw1 : k0_chk1 v1) (k0_t7 : Fin (k0_t7_loop v1).trips), 256 ∣ (k0_mult9 v1 k0_t7).toNat := fun v1 k0_hw1 k0_t7 => k0_hw1.1.2.2.2.2.2.2.2.2.2.2.2.2.2.2.2.2.2.2.2.2.2.2.2.2.2.2.2.1 k0_t7
theorem k0_off14_inb : ∀ (v1 : BitVec 32) (k0_hw1 : k0_chk1 v1) (k0_t7 : Fin (k0_t7_loop v1).trips), ∀ a, (k0_off14 v1 k0_t7) a + S1x1x256x128.size a ≤ S1x2x2048x128.size a := fun v1 k0_hw1 k0_t7 => k0_hw1.1.2.2.2.2.2.2.2.2.2.2.2.2.2.2.2.2.2.2.2.2.2.2.2.2.2.2.2.2.1 k0_t7
theorem k0_off15_inb : ∀ (v1 : BitVec 32) (k0_hw1 : k0_chk1 v1) (k0_t7 : Fin (k0_t7_loop v1).trips), ∀ a, (k0_off15 v1 k0_t7) a + S1x1x256.size a ≤ S1x2x2048.size a := fun v1 k0_hw1 k0_t7 => k0_hw1.1.2.2.2.2.2.2.2.2.2.2.2.2.2.2.2.2.2.2.2.2.2.2.2.2.2.2.2.2.2.1 k0_t7
theorem k0_mult10_dvd : ∀ (v1 : BitVec 32) (k0_hw1 : k0_chk1 v1) (k0_t7 : Fin (k0_t7_loop v1).trips), 256 ∣ (k0_mult10 v1 k0_t7).toNat := fun v1 k0_hw1 k0_t7 => k0_hw1.1.2.2.2.2.2.2.2.2.2.2.2.2.2.2.2.2.2.2.2.2.2.2.2.2.2.2.2.2.2.2.1 k0_t7
theorem k0_t8_ok : ∀ (v1 : BitVec 32) (k0_hw1 : k0_chk1 v1), (k0_t8_loop v1).OK := fun v1 k0_hw1 => k0_hw1.1.2.2.2.2.2.2.2.2.2.2.2.2.2.2.2.2.2.2.2.2.2.2.2.2.2.2.2.2.2.2.2
theorem k0_mult11_dvd : ∀ (v1 : BitVec 32) (k0_hw1 : k0_chk1 v1) (k0_t8 : Fin (k0_t8_loop v1).trips), 256 ∣ (k0_mult11 v1 k0_t8).toNat := fun v1 k0_hw1 k0_t8 => k0_hw1.2.1 k0_t8
theorem k0_off16_inb : ∀ (v1 : BitVec 32) (k0_hw1 : k0_chk1 v1) (k0_t8 : Fin (k0_t8_loop v1).trips), ∀ a, (k0_off16 v1 k0_t8) a + S1x1x256x128.size a ≤ S1x2x2048x128.size a := fun v1 k0_hw1 k0_t8 => k0_hw1.2.2.1 k0_t8
theorem k0_off17_inb : ∀ (v1 : BitVec 32) (k0_hw1 : k0_chk1 v1) (k0_t8 : Fin (k0_t8_loop v1).trips), ∀ a, (k0_off17 v1 k0_t8) a + S1x1x256.size a ≤ S1x2x2048.size a := fun v1 k0_hw1 k0_t8 => k0_hw1.2.2.2.1 k0_t8
theorem k0_mult12_dvd : ∀ (v1 : BitVec 32) (k0_hw1 : k0_chk1 v1) (k0_t8 : Fin (k0_t8_loop v1).trips), 256 ∣ (k0_mult12 v1 k0_t8).toNat := fun v1 k0_hw1 k0_t8 => k0_hw1.2.2.2.2 k0_t8

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x32x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x2x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x2x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x2048x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x2048x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x32x32x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x32x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x32x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x32x128 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x32x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
abbrev S64x128 : Shape := ⟨2, ![64, 128]⟩
variable {F : FTy → Type} [FloatOps F]
-- ==== ReferenceIdeal.lean ====
abbrev S64x32x32x128 : Shape := ⟨4, ![64, 32, 32, 128]⟩
abbrev S64x32x2x128 : Shape := ⟨4, ![64, 32, 2, 128]⟩
abbrev S64x2048x2x128 : Shape := ⟨4, ![64, 2048, 2, 128]⟩
abbrev S64x2048x2 : Shape := ⟨3, ![64, 2048, 2]⟩
abbrev S64 : Shape := ⟨1, ![64]⟩
abbrev S32x32 : Shape := ⟨2, ![32, 32]⟩
abbrev S_ : Shape := ⟨0, ![]⟩
abbrev S64x32x2 : Shape := ⟨3, ![64, 32, 2]⟩
abbrev S64x32x2x1 : Shape := ⟨4, ![64, 32, 2, 1]⟩
abbrev S64x32x2x16x128 : Shape := ⟨5, ![64, 32, 2, 16, 128]⟩
abbrev S64x2x32x16x128 : Shape := ⟨5, ![64, 2, 32, 16, 128]⟩
abbrev S64x2048x2x1 : Shape := ⟨4, ![64, 2048, 2, 1]⟩
abbrev S64x2x32x16x2048 : Shape := ⟨5, ![64, 2, 32, 16, 2048]⟩
abbrev S2048 : Shape := ⟨1, ![2048]⟩
abbrev S1x2048 : Shape := ⟨2, ![1, 2048]⟩
abbrev S64x1 : Shape := ⟨2, ![64, 1]⟩
abbrev S64x2048 : Shape := ⟨2, ![64, 2048]⟩
abbrev S64x1x1x1x2048 : Shape := ⟨5, ![64, 1, 1, 1, 2048]⟩
abbrev S64x2x32x16x32 : Shape := ⟨5, ![64, 2, 32, 16, 32]⟩
abbrev S1x1x32x1x32 : Shape := ⟨5, ![1, 1, 32, 1, 32]⟩
abbrev S64x2x32x16 : Shape := ⟨4, ![64, 2, 32, 16]⟩
abbrev S64x2x32x16x1 : Shape := ⟨5, ![64, 2, 32, 16, 1]⟩
abbrev S64x2x128x32x16 : Shape := ⟨5, ![64, 2, 128, 32, 16]⟩

abbrev nBuf : Space → Nat
  | .hbm => 192
  | .vmem => 14
  | .smem => 0
  | _ => 0

abbrev hbmTy0_0 (i : Nat) : BufTy := match i % 128 with
  | 0 => ⟨S64x32x32x128, .bf16⟩
  | 1 => ⟨S64x32x2x128, .bf16⟩
  | 2 => ⟨S64x32x2x128, .bf16⟩
  | 3 => ⟨S64x2048x2x128, .fp8e4m3⟩
  | 4 => ⟨S64x2048x2, .f32⟩
  | 5 => ⟨S64x2048x2x128, .fp8e4m3⟩
  | 6 => ⟨S64x2048x2, .f32⟩
  | 7 => ⟨S64, .i32⟩
  | 8 => ⟨S32x32, .i1⟩
  | 9 => ⟨S64x32x2x128, .f32⟩
  | 10 => ⟨S64x32x2x128, .f32⟩
  | 11 => ⟨S_, .f32⟩
  | 12 => ⟨S64x32x2, .f32⟩
  | 13 => ⟨S_, .f32⟩
  | 14 => ⟨S64x32x2, .f32⟩
  | 15 => ⟨S64x32x2, .i1⟩
  | 16 => ⟨S_, .f32⟩
  | 17 => ⟨S64x32x2, .f32⟩
  | 18 => ⟨S64x32x2, .f32⟩
  | 19 => ⟨S64x32x2, .f32⟩
  | 20 => ⟨S_, .f32⟩
  | 21 => ⟨S_, .f32⟩
  | 22 => ⟨S64x32x2, .f32⟩
  | 23 => ⟨S64x32x2, .f32⟩
  | 24 => ⟨S64x32x2, .f32⟩
  | 25 => ⟨S_, .f32⟩
  | 26 => ⟨S64x32x2, .f32⟩
  | 27 => ⟨S64x32x2, .f32⟩
  | 28 => ⟨S_, .f32⟩
  | 29 => ⟨S_, .f32⟩
  | 30 => ⟨S64x32x2, .f32⟩
  | 31 => ⟨S64x32x2, .f32⟩
  | 32 => ⟨S_, .f32⟩
  | 33 => ⟨S64x32x2, .f32⟩
  | 34 => ⟨S64x32x2, .f32⟩
  | 35 => ⟨S64x32x2, .f32⟩
  | 36 => ⟨S_, .f32⟩
  | 37 => ⟨S64x32x2, .f32⟩
  | 38 => ⟨S64x32x2, .f32⟩
  | 39 => ⟨S64x32x2x1, .f32⟩
  | 40 => ⟨S64x32x2x128, .f32⟩
  | 41 => ⟨S64x32x2x128, .f32⟩
  | 42 => ⟨S_, .f32⟩
  | 43 => ⟨S_, .f32⟩
  | 44 => ⟨S_, .f32⟩
  | 45 => ⟨S64x32x2x128, .f32⟩
  | 46 => ⟨S64x32x2x128, .f32⟩
  | 47 => ⟨S_, .f32⟩
  | 48 => ⟨S64x32x2x128, .f32⟩
  | 49 => ⟨S64x32x2x128, .f32⟩
  | 50 => ⟨S64x32x2x128, .f32⟩
  | 51 => ⟨S64x32x2x128, .f32⟩
  | 52 => ⟨S_, .f32⟩
  | 53 => ⟨S64x32x2, .f32⟩
  | 54 => ⟨S_, .f32⟩
  | 55 => ⟨S64x32x2, .f32⟩
  | 56 => ⟨S64x32x2, .i1⟩
  | 57 => ⟨S_, .f32⟩
  | 58 => ⟨S64x32x2, .f32⟩
  | 59 => ⟨S64x32x2, .f32⟩
  | 60 => ⟨S64x32x2, .f32⟩
  | 61 => ⟨S_, .f32⟩
  | 62 => ⟨S_, .f32⟩
  | 63 => ⟨S64x32x2, .f32⟩
  | 64 => ⟨S64x32x2, .f32⟩
  | 65 => ⟨S64x32x2, .f32⟩
  | 66 => ⟨S_, .f32⟩
  | 67 => ⟨S64x32x2, .f32⟩
  | 68 => ⟨S64x32x2, .f32⟩
  | 69 => ⟨S_, .f32⟩
  | 70 => ⟨S_, .f32⟩
  | 71 => ⟨S64x32x2, .f32⟩
  | 72 => ⟨S64x32x2, .f32⟩
  | 73 => ⟨S_, .f32⟩
  | 74 => ⟨S64x32x2, .f32⟩
  | 75 => ⟨S64x32x2, .f32⟩
  | 76 => ⟨S64x32x2, .f32⟩
  | 77 => ⟨S_, .f32⟩
  | 78 => ⟨S64x32x2, .f32⟩
  | 79 => ⟨S64x32x2, .f32⟩
  | 80 => ⟨S64x32x2x1, .f32⟩
  | 81 => ⟨S64x32x2x128, .f32⟩
  | 82 => ⟨S64x32x2x128, .f32⟩
  | 83 => ⟨S_, .f32⟩
  | 84 => ⟨S_, .f32⟩
  | 85 => ⟨S_, .f32⟩
  | 86 => ⟨S64x32x2x128, .f32⟩
  | 87 => ⟨S64x32x2x128, .f32⟩
  | 88 => ⟨S_, .f32⟩
  | 89 => ⟨S64x32x2x128, .f32⟩
  | 90 => ⟨S64x32x2x128, .f32⟩
  | 91 => ⟨S64x32x2x128, .fp8e4m3⟩
  | 92 => ⟨S64x32x2, .f32⟩
  | 93 => ⟨S64x32x2x128, .fp8e4m3⟩
  | 94 => ⟨S64x32x2, .f32⟩
  | 95 => ⟨S64x32x2x128, .bf16⟩
  | 96 => ⟨S64x32x2x128, .bf16⟩
  | 97 => ⟨S64x2048x2x128, .bf16⟩
  | 98 => ⟨S64x2048x2x128, .bf16⟩
  | 99 => ⟨S64x32x2x16x128, .bf16⟩
  | 100 => ⟨S64x2x32x16x128, .bf16⟩
  | 101 => ⟨S64x2048x2, .bf16⟩
  | 102 => ⟨S64x2048x2x1, .bf16⟩
  | 103 => ⟨S64x2048x2x128, .bf16⟩
  | 104 => ⟨S64x2048x2x128, .bf16⟩
  | 105 => ⟨S64x2048x2, .bf16⟩
  | 106 => ⟨S64x2048x2x1, .bf16⟩
  | 107 => ⟨S64x2048x2x128, .bf16⟩
  | 108 => ⟨S64x2048x2x128, .bf16⟩
  | 109 => ⟨S64x32x2, .bf16⟩
  | 110 => ⟨S64x32x2x1, .bf16⟩
  | 111 => ⟨S64x32x2x128, .bf16⟩
  | 112 => ⟨S64x32x2x128, .bf16⟩
  | 113 => ⟨S64x32x2, .bf16⟩
  | 114 => ⟨S64x32x2x1, .bf16⟩
  | 115 => ⟨S64x32x2x128, .bf16⟩
  | 116 => ⟨S64x32x2x128, .bf16⟩
  | 117 => ⟨S64x2x32x16x2048, .f32⟩
  | 118 => ⟨S_, .f32⟩
  | 119 => ⟨S64x2x32x16x2048, .f32⟩
  | 120 => ⟨S64x2x32x16x2048, .f32⟩
  | 121 => ⟨S2048, .i32⟩
  | 122 => ⟨S1x2048, .i32⟩
  | 123 => ⟨S64x1, .i32⟩
  | 124 => ⟨S64x2048, .i32⟩
  | 125 => ⟨S64x2048, .i32⟩
  | 126 => ⟨S64x2048, .i1⟩
  | 127 => ⟨S64x1x1x1x2048, .i1⟩
  | _ => ⟨S64x32x32x128, .bf16⟩

abbrev hbmTy0_1 (i : Nat) : BufTy := match i % 128 with
  | 0 => ⟨S_, .f32⟩
  | 1 => ⟨S_, .f32⟩
  | 2 => ⟨S64x2x32x16x2048, .i1⟩
  | 3 => ⟨S64x2x32x16x2048, .f32⟩
  | 4 => ⟨S64x2x32x16x2048, .f32⟩
  | 5 => ⟨S64x2x32x16x32, .f32⟩
  | 6 => ⟨S_, .f32⟩
  | 7 => ⟨S64x2x32x16x32, .f32⟩
  | 8 => ⟨S64x2x32x16x32, .f32⟩
  | 9 => ⟨S1x1x32x1x32, .i1⟩
  | 10 => ⟨S_, .f32⟩
  | 11 => ⟨S_, .f32⟩
  | 12 => ⟨S64x2x32x16x32, .i1⟩
  | 13 => ⟨S64x2x32x16x32, .f32⟩
  | 14 => ⟨S64x2x32x16x32, .f32⟩
  | 15 => ⟨S_, .f32⟩
  | 16 => ⟨S64x2x32x16, .f32⟩
  | 17 => ⟨S64x2x32x16x1, .f32⟩
  | 18 => ⟨S_, .f32⟩
  | 19 => ⟨S64x2x32x16, .f32⟩
  | 20 => ⟨S64x2x32x16x1, .f32⟩
  | 21 => ⟨S64x2x32x16x1, .f32⟩
  | 22 => ⟨S64x2x32x16x2048, .f32⟩
  | 23 => ⟨S64x2x32x16x2048, .f32⟩
  | 24 => ⟨S64x2x32x16x2048, .f32⟩
  | 25 => ⟨S64x2x32x16x32, .f32⟩
  | 26 => ⟨S64x2x32x16x32, .f32⟩
  | 27 => ⟨S64x2x32x16x32, .f32⟩
  | 28 => ⟨S_, .f32⟩
  | 29 => ⟨S64x2x32x16, .f32⟩
  | 30 => ⟨S64x2x32x16x1, .f32⟩
  | 31 => ⟨S_, .f32⟩
  | 32 => ⟨S64x2x32x16, .f32⟩
  | 33 => ⟨S64x2x32x16x1, .f32⟩
  | 34 => ⟨S64x2x32x16x1, .f32⟩
  | 35 => ⟨S_, .f32⟩
  | 36 => ⟨S64x2x32x16x1, .f32⟩
  | 37 => ⟨S64x2x32x16x1, .i1⟩
  | 38 => ⟨S64x2x32x16x2048, .f32⟩
  | 39 => ⟨S64x2x32x16x2048, .f32⟩
  | 40 => ⟨S_, .f32⟩
  | 41 => ⟨S_, .f32⟩
  | 42 => ⟨S64x2x32x16x2048, .i1⟩
  | 43 => ⟨S64x2x32x16x2048, .f32⟩
  | 44 => ⟨S64x2x32x16x2048, .f32⟩
  | 45 => ⟨S64x2x32x16x2048, .bf16⟩
  | 46 => ⟨S_, .f32⟩
  | 47 => ⟨S64x2x32x16x1, .f32⟩
  | 48 => ⟨S64x2x32x16x1, .i1⟩
  | 49 => ⟨S64x2x32x16x32, .f32⟩
  | 50 => ⟨S64x2x32x16x32, .f32⟩
  | 51 => ⟨S_, .f32⟩
  | 52 => ⟨S_, .f32⟩
  | 53 => ⟨S64x2x32x16x32, .i1⟩
  | 54 => ⟨S64x2x32x16x32, .f32⟩
  | 55 => ⟨S64x2x32x16x32, .f32⟩
  | 56 => ⟨S64x2x32x16x32, .bf16⟩
  | 57 => ⟨S64x2x128x32x16, .f32⟩
  | 58 => ⟨S64x32x2x16x128, .f32⟩
  | 59 => ⟨S64x2x128x32x16, .f32⟩
  | 60 => ⟨S64x32x2x16x128, .f32⟩
  | 61 => ⟨S64x32x2x16x128, .f32⟩
  | 62 => ⟨S64x32x32x128, .f32⟩
  | 63 => ⟨S64x32x32x128, .bf16⟩
  | _ => ⟨S64x32x32x128, .bf16⟩

abbrev hbmTy (i : Nat) : BufTy := match i / 128 with
  | 0 => hbmTy0_0 i
  | 1 => hbmTy0_1 i
  | _ => ⟨S64x32x32x128, .bf16⟩

abbrev bufTy : (tb : Table) → Fin (tcTables nBuf tb) → BufTy
  | .hbm, ⟨i, _⟩ => hbmTy i
  | .local _ .vmem, ⟨0, _⟩ => ⟨S64x32x2x128, .f32⟩
  | .local _ .vmem, ⟨1, _⟩ => ⟨S64x32x2, .f32⟩
  | .local _ .vmem, ⟨2, _⟩ => ⟨S64x32x2x128, .f32⟩
  | .local _ .vmem, ⟨3, _⟩ => ⟨S64x32x2, .f32⟩
  | .local _ .vmem, ⟨4, _⟩ => ⟨S64x2048x2x128, .fp8e4m3⟩
  | .local _ .vmem, ⟨5, _⟩ => ⟨S64x2048x2x128, .fp8e4m3⟩
  | .local _ .vmem, ⟨6, _⟩ => ⟨S64x32x2x128, .fp8e4m3⟩
  | .local _ .vmem, ⟨7, _⟩ => ⟨S64x32x2, .f32⟩
  | .local _ .vmem, ⟨8, _⟩ => ⟨S64x32x2x128, .fp8e4m3⟩
  | .local _ .vmem, ⟨9, _⟩ => ⟨S64x32x2, .f32⟩
  | .local _ .vmem, ⟨10, _⟩ => ⟨S64x32x2x128, .bf16⟩
  | .local _ .vmem, ⟨11, _⟩ => ⟨S64x32x2x128, .bf16⟩
  | .local _ .vmem, ⟨12, _⟩ => ⟨S64x2048x2x128, .bf16⟩
  | .local _ .vmem, ⟨13, _⟩ => ⟨S64x2048x2x128, .bf16⟩
  | _, _ => ⟨S64x32x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_cst_5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_7 : Ref sig .tc := ⟨.hbm, 42, rfl⟩
abbrev main_cst_8 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_cst_10 : Ref sig .tc := ⟨.hbm, 54, rfl⟩
abbrev main_v27 : Ref sig .tc := ⟨.hbm, 55, rfl⟩
abbrev main_v28 : Ref sig .tc := ⟨.hbm, 56, rfl⟩
abbrev main_cst_11 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_12 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_13 : Ref sig .tc := ⟨.hbm, 66, rfl⟩
abbrev main_v36 : Ref sig .tc := ⟨.hbm, 67, rfl⟩
abbrev main_v37 : Ref sig .tc := ⟨.hbm, 68, rfl⟩
abbrev main_cst_14 : Ref sig .tc := ⟨.hbm, 69, rfl⟩
abbrev main_call2_v0 : Ref sig .tc := ⟨.hbm, 70, rfl⟩
abbrev main_call2_v1 : Ref sig .tc := ⟨.hbm, 71, rfl⟩
abbrev main_v38 : Ref sig .tc := ⟨.hbm, 72, rfl⟩
abbrev main_cst_15 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_16 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_17 : Ref sig .tc := ⟨.hbm, 83, rfl⟩
abbrev main_cst_18 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_v47 : Ref sig .tc := ⟨.hbm, 90, rfl⟩
abbrev main_v48_0 : Ref sig .tc := ⟨.hbm, 91, rfl⟩
abbrev main_v48_1 : Ref sig .tc := ⟨.hbm, 92, rfl⟩
abbrev main_v48_2 : Ref sig .tc := ⟨.hbm, 93, rfl⟩
abbrev main_v48_3 : Ref sig .tc := ⟨.hbm, 94, rfl⟩
abbrev main_v48_4 : Ref sig .tc := ⟨.hbm, 95, rfl⟩
abbrev main_v48_5 : Ref sig .tc := ⟨.hbm, 96, rfl⟩
abbrev main_v48_6 : Ref sig .tc := ⟨.hbm, 97, rfl⟩
abbrev main_v48_7 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst_19 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_20 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_v77 : Ref sig .tc := ⟨.hbm, 132, rfl⟩
abbrev main_v78 : Ref sig .tc := ⟨.hbm, 133, rfl⟩
abbrev main_cst_21 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_cst_22 : Ref sig .tc := ⟨.hbm, 138, rfl⟩
abbrev main_call5_v0 : Ref sig .tc := ⟨.hbm, 139, rfl⟩
abbrev main_call5_v1 : Ref sig .tc := ⟨.hbm, 140, rfl⟩
abbrev main_call5_v2 : Ref sig .tc := ⟨.hbm, 141, rfl⟩
abbrev main_v82 : Ref sig .tc := ⟨.hbm, 142, rfl⟩
abbrev main_cst_23 : Ref sig .tc := ⟨.hbm, 143, rfl⟩
abbrev main_v83 : Ref sig .tc := ⟨.hbm, 144, rfl⟩
abbrev main_v84 : Ref sig .tc := ⟨.hbm, 145, rfl⟩
abbrev main_cst_24 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_cst_25 : Ref sig .tc := ⟨.hbm, 156, rfl⟩
abbrev main_v94 : Ref sig .tc := ⟨.hbm, 157, rfl⟩
abbrev main_v95 : Ref sig .tc := ⟨.hbm, 158, rfl⟩
abbrev main_cst_26 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_cst_27 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_cst_28 : Ref sig .tc := ⟨.hbm, 168, rfl⟩
abbrev main_call6_v0 : Ref sig .tc := ⟨.hbm, 169, rfl⟩
abbrev main_call6_v1 : Ref sig .tc := ⟨.hbm, 170, rfl⟩
abbrev main_call6_v2 : Ref sig .tc := ⟨.hbm, 171, rfl⟩
abbrev main_v103 : Ref sig .tc := ⟨.hbm, 172, rfl⟩
abbrev main_v104 : Ref sig .tc := ⟨.hbm, 173, rfl⟩
abbrev main_cst_29 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_cst_30 : Ref sig .tc := ⟨.hbm, 179, rfl⟩
abbrev main_call7_v0 : Ref sig .tc := ⟨.hbm, 180, rfl⟩
abbrev main_call7_v1 : Ref sig .tc := ⟨.hbm, 181, rfl⟩
abbrev main_call7_v2 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S64x32x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x32x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x32x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x32x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048x2x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x2048x2x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x32x2x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x32x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x32x2x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x32x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x32x2x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x32x2x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x2048x2x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x2048x2x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Chunks.lean ====
/- The chunks of the cache a sequence's loops run over: 256 positions each, as many as hold the valid ones. A count of
   valid positions of at most 2048 (read as a signed word) gives at most 8 chunks, whose positions lie inside the cache;
   the loops the compiler adds for a remainder of the unrolling run no trip. -/
module

public import Idealize.ShloMosaic.Lib.WordArith
public import Idealize.ShloMosaic.Lib.Scf
public import Idealize.ShloMosaic.PureOps
public import Mathlib.Tactic.IntervalCases

@[expose] public section

namespace Cert.Chunks

open Idealize.ShloMosaic

/-- How many chunks the kernel counts for `v` valid positions: `(v + 255) / 256`. -/
def chunks (v : BitVec 32) : BitVec 32 := Scalar.divsi (Scalar.addi v 255#32) 256#32

/-- The chunks as a number of trips: none for a negative count. -/
def num (v : BitVec 32) : ℕ := (chunks v).toInt.toNat

theorem toInt_chunks (v : BitVec 32) (h : v.toInt ≤ 2048) : (chunks v).toInt = (v.toInt + 255).tdiv 256 := by
  have hv := v.le_toInt
  have ha : (Scalar.addi v 255#32).toInt = v.toInt + 255 := by
    have := WordArith.toInt_add_of_bounds v 255#32 (by have : (255#32).toInt = 255 := by decide
                                                       rw [this]; norm_num at hv ⊢; omega)
      (by have : (255#32).toInt = 255 := by decide
          rw [this]; norm_num; omega)
    exact this
  unfold chunks Scalar.divsi IntOp.divsi
  have h256 : ¬ IntOp.SDivCorner (Scalar.addi v 255#32) 256#32 := by
    rintro (h | ⟨-, h⟩)
    · exact absurd h (by decide)
    · exact absurd h (by decide)
  rw [if_neg h256, BitVec.toInt_sdiv_of_ne_or_ne _ _ (Or.inr (by decide)), ha]
  rfl

theorem tdiv_cases (a : ℤ) : (0 ≤ a ∧ a.tdiv 256 = a / 256) ∨ (a < 0 ∧ a.tdiv 256 ≤ 0) := by
  rcases lt_or_ge a 0 with h | h
  · refine Or.inr ⟨h, ?_⟩
    have := Int.tdiv_nonneg (a := -a) (b := 256) (by omega) (by norm_num)
    rw [Int.neg_tdiv] at this; omega
  · exact Or.inl ⟨h, Int.tdiv_eq_ediv_of_nonneg h⟩

theorem toInt_chunks_le (v : BitVec 32) (h : v.toInt ≤ 2048) : (chunks v).toInt ≤ 8 := by
  rw [toInt_chunks v h]; rcases tdiv_cases (v.toInt + 255) with ⟨_, e⟩ | ⟨_, e⟩ <;> omega

theorem num_le (v : BitVec 32) (h : v.toInt ≤ 2048) : num v ≤ 8 := by
  have := toInt_chunks_le v h; unfold num; omega

/-- Every valid position lies in one of the chunks. -/
theorem valid_le (v : BitVec 32) (h : v.toInt ≤ 2048) : v.toInt ≤ 256 * num v := by
  have e := toInt_chunks v h; unfold num; rw [e]; rcases tdiv_cases (v.toInt + 255) with ⟨_, e⟩ | ⟨_, e⟩ <;> omega

/-- The spelling the program gives a loop's upper bound: `0 + (c - 0) / 1 * 1`. -/
theorem bound_eq (v : BitVec 32) : Scalar.addi 0#32 (Scalar.muli (Scalar.divsi (Scalar.subi (chunks v) 0#32) 1#32) 1#32) = chunks v := by
  have h1 : Scalar.divsi (Scalar.subi (chunks v) 0#32) 1#32 = Scalar.subi (chunks v) 0#32 := WordArith.divsi_one _ _
  rw [h1]; simp [Scalar.addi, Scalar.muli, Scalar.subi, IntOp.addi, IntOp.muli, IntOp.subi]

theorem bound_eq' (v : BitVec 32) : Scalar.addi 0#32 (Scalar.subi (chunks v) 0#32) = chunks v := by
  simp [Scalar.addi, Scalar.subi, IntOp.addi, IntOp.subi]

theorem trips_main (v : BitVec 32) : Scf.trips 0#32 (chunks v) 1#32 = num v := by
  unfold Scf.trips num; simp

theorem trips_rest (c : BitVec 32) : Scf.trips c c 1#32 = 0 := by
  unfold Scf.trips; simp

theorem ok_main (v : BitVec 32) (h : v.toInt ≤ 2048) : Scf.OK 0#32 (chunks v) 1#32 := by
  refine ⟨by decide, ?_⟩
  rw [trips_main]; have := num_le v h
  simp; omega

theorem ok_rest (v : BitVec 32) (h : v.toInt ≤ 2048) : Scf.OK (chunks v) (chunks v) 1#32 := by
  refine ⟨by decide, ?_⟩
  rw [trips_rest]; have := toInt_chunks_le v h
  simp; omega

theorem toNat_pos (k : ℕ) (h : k < 8) : (Scalar.muli (Scf.iv 0#32 1#32 k) 256#32).toNat = 256 * k := by
  interval_cases k <;> decide

end Cert.Chunks
-- ==== Proof.KernelRun.lean ====
/-
  One run of `Kernel`'s kernel body on any whole staging buffers, by symbolic execution: the four loops over the cache
  go by their generated invariants, and the word the side conditions are about (the request's cache length, read from
  scalar memory at the grid point) is a hypothesis. What the stores leave in each output is found by the run.
-/
module

public import proofs.«01_k».proof.Proof.Gen.Kernel.Skeleton
public import proofs.«01_k».proof.Proof.Gen.Kernel.Loops
public import proofs.«01_k».proof.Proof.Gen.Kernel.Frame
public import Idealize.ShloMosaic.Lib.Pipeline.FrameBody
public import Idealize.ShloMosaic.Lib.Ring
public import Idealize.ShloMosaic.Lib.Tactic

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (c : Dev nD) (i : grid0.Coords) (arg1 : Memref sig .tc .smem S64 .i32) (harg1 : arg1.IsWhole) (arg2 : Memref sig .tc .vmem S1x32x32x128 .bf16) (harg2 : arg2.IsWhole) (arg3 : Memref sig .tc .vmem S1x32x2x128 .bf16) (harg3 : arg3.IsWhole) (arg4 : Memref sig .tc .vmem S1x32x2x128 .bf16) (harg4 : arg4.IsWhole) (arg5 : Memref sig .tc .vmem S1x2x2048x128 .fp8e4m3) (harg5 : arg5.IsWhole) (arg6 : Memref sig .tc .vmem S1x2x2048 .f32) (harg6 : arg6.IsWhole) (arg7 : Memref sig .tc .vmem S1x2x2048x128 .fp8e4m3) (harg7 : arg7.IsWhole) (arg8 : Memref sig .tc .vmem S1x2x2048 .f32) (harg8 : arg8.IsWhole) (arg9 : Memref sig .tc .vmem S32x512 .f32) (harg9 : arg9.IsWhole) (arg10 : Memref sig .tc .vmem S1x32x32x128 .bf16) (harg10 : arg10.IsWhole) (arg11 : Memref sig .tc .vmem S1x2x32x128 .fp8e4m3) (harg11 : arg11.IsWhole) (arg12 : Memref sig .tc .vmem S1x2x32x1 .f32) (harg12 : arg12.IsWhole) (arg13 : Memref sig .tc .vmem S1x2x32x128 .fp8e4m3) (harg13 : arg13.IsWhole) (arg14 : Memref sig .tc .vmem S1x2x32x1 .f32) (harg14 : arg14.IsWhole)
  (x0 : Vec F S64 .i32) (x1 : Vec F S1x32x32x128 .bf16) (x2 : Vec F S1x32x2x128 .bf16) (x3 : Vec F S1x32x2x128 .bf16) (x4 : Vec F S1x2x2048x128 .fp8e4m3) (x5 : Vec F S1x2x2048 .f32) (x6 : Vec F S1x2x2048x128 .fp8e4m3) (x7 : Vec F S1x2x2048 .f32) (x8 : Vec F S32x512 .f32) (k0_hw1 : k0_chk1 (arg1.view.readAt (Elt F) (Rect.unit (s := S64) (k0_off1 i) S1.size (k0_off1_inb i)).toLoadRect (harg1.unread x0) (Shape.Idx.first (numel1_S1.symm ▸ Nat.one_pos))))

-- (the run's proof term is large: checking it walks past the default budget)
set_option maxHeartbeats 1000000 in
include k0_hw1 in
/-- The body's triple: on whole staging memrefs — the inputs' at their contents,
    the FORGOTTEN outputs' (9, 10, 11, 12, 13) at anything, handed back at some contents nothing names —
    the body runs to the continuation holding the inputs' as they were: the printed functions are their skeletons (`Gen.*_eq_skeleton`),
    which `sl_exec` runs (Lib/Exec.lean). -/
theorem kernelRun0_A :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_tree_attn i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_tree_attn_eq_skeleton]; unfold cc0_tree_attn_skel
    simp only [k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact k0_hw1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

end Cert.Kernel.Run

end
-- ==== Proof.KernelFrame.lean ====
/-
  The frame of `Kernel`: what the outputs' staging buffers hold after each grid point, the pipeline's proof data, the
  body obligation, and the run of @main around its one region. It holds under `Hyps`, the kernel's side conditions at
  every point, which the precondition on the cache lengths gives (`Lengths.lean`).
-/
module

public import proofs.«01_k».proof.Proof.KernelRun
public import Idealize.ShloMosaic.Lib.Claim
public import Idealize.ShloMosaic.Lib.Pipeline.FrameSuffix

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v10, main_v11, main_v12, main_v13, main_v14, main_v15}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The frame from a run that names nothing of the outputs. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePostR.arr_in h c 1 rfl).trans ((hA c 1).trans (V_main_arg0 m c)),
      (Pipeline.RDat.FramePostR.arr_in h c 2 rfl).trans ((hA c 2).trans (V_main_arg1 m c)),
      (Pipeline.RDat.FramePostR.arr_in h c 3 rfl).trans ((hA c 3).trans (V_main_arg2 m c)),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      (Pipeline.RDat.FramePostR.arr_in h c 0 rfl).trans ((hA c 0).trans (V_main_arg7 m c)),
      ((h c).2 main_arg8 (Finset.mem_sdiff.mpr ⟨Pipeline.mem_restRefs_of main_arg8 (by decide) (by decide), by decide⟩)).trans (V_main_arg8 m c)⟩) h

/-- Each window's current staging memref at point `t`, spelled as the pipeline passes it (`bodyAt0`), and its wholeness. -/
abbrev ms0_0 (t : Fin cfg0.N) : Memref sig .tc .smem S64 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x32x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x2x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x2x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x2048x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x2048x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x32x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x32x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2x32x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2x32x128 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2x32x1 .f32 := win0_13.stage (cfg0.slots t 13)
abbrev hs0_13 (t : Fin cfg0.N) : (ms0_13 t).IsWhole := hstage0_13 ((cfg0.slots t 13).cast nbuf0_13)

/-! ## The side conditions the body assumes, as the frame's hypothesis -/

/-- The side conditions the body ASSUMES of words it loads from its input SMEM windows, or inside a counted
    loop of the loop's carried counter at every trip (the printed `TpuEff.assume
    (kK_chkN …)`: facts computed from the words that no program decides for every word), at EVERY point, over the
    words of the argument blocks there — spelled as each case's run reads them (`View.readAt` through the window's
    memref at its held contents), each under the conditions of the branches it sits inside. The frame holds
    under it; Proof.lean proves it from the certificate's
    precondition (`hyps_of_pre`; `View.readAt_apply` and `Memref.IsWhole.read_unread` rewrite a conjunct to the
    predicate at the block's word). -/
def Hyps (m : (ℓ : Loc nD τ sig) → Buf (Elt F) ℓ) : Prop :=
  ∀ (c : Dev nD) (t : Fin cfg0.N),
    k0_chk1 ((ms0_0 t).view.readAt (Elt F) (Rect.unit (s := S64) (k0_off1 (grid0.coords t)) S1.size (k0_off1_inb (grid0.coords t))).toLoadRect ((hs0_0 t).unread (iblk m c 0 t)) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (c : Dev nD) (t : Fin cfg0.N) : Prop :=
  k0_chk1 ((ms0_0 t).view.readAt (Elt F) (Rect.unit (s := S64) (k0_off1 (grid0.coords t)) S1.size (k0_off1_inb (grid0.coords t))).toLoadRect ((hs0_0 t).unread (iblk m c 0 t)) (Shape.Idx.first (numel1_S1.symm ▸ Nat.one_pos)))
variable {m} in
theorem Hyps.c0 (hH : Hyps m) (c : Dev nD) (t : Fin cfg0.N) :
    k0_chk1 ((ms0_0 t).view.readAt (Elt F) (Rect.unit (s := S64) (k0_off1 (grid0.coords t)) S1.size (k0_off1_inb (grid0.coords t))).toLoadRect ((hs0_0 t).unread (iblk m c 0 t)) (Shape.Idx.first (numel1_S1.symm ▸ Nat.one_pos))) := (hH c t)
variable {m} in
theorem Hyps.of
    (p0 : ∀ (c : Dev nD) (t : Fin cfg0.N), Hyps.p0 m c t) :
    Hyps m := fun c t =>
  p0 c t

/-! ## The pipeline's proof data -/

/-- The output windows this certificate FORGETS (9, 10, 11, 12, 13): nothing reads what the kernel leaves in them, so nothing
    of it is named (Lib/Pipeline/Dat.lean `Dat.toRForget`). -/
def forgets0 : Fin 14 → Bool := fun w => w.val == 9 || w.val == 10 || w.val == 11 || w.val == 12 || w.val == 13

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (hH : Hyps m) (c : Dev nD) (w : Fin cfg0.W) : (dats m hH 0 c).A w = V m c (Pipeline.arrRef spec0 w) := by
  dsimp only [dats]

/-- What the body leaves, window by window (the proof data's `match` reduced by `dsimp`). -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]
theorem after0_4 (hH : Hyps m) (c : Dev nD) (t : Fin cfg0.N) : (dats m hH 0 c).after 4 t = iblk m c 4 t := by dsimp only [dats]
theorem after0_5 (hH : Hyps m) (c : Dev nD) (t : Fin cfg0.N) : (dats m hH 0 c).after 5 t = iblk m c 5 t := by dsimp only [dats]
theorem after0_6 (hH : Hyps m) (c : Dev nD) (t : Fin cfg0.N) : (dats m hH 0 c).after 6 t = iblk m c 6 t := by dsimp only [dats]
theorem after0_7 (hH : Hyps m) (c : Dev nD) (t : Fin cfg0.N) : (dats m hH 0 c).after 7 t = iblk m c 7 t := by dsimp only [dats]
theorem after0_8 (hH : Hyps m) (c : Dev nD) (t : Fin cfg0.N) : (dats m hH 0 c).after 8 t = iblk m c 8 t := by dsimp only [dats]

/-- Each input's current staging buffer holds its block at every point, fetched there or not (`beforeK_W_of`). -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
theorem before0_4 (hH : Hyps m) (c : Dev nD) (t : Fin cfg0.N) (d) : (dats m hH 0 c).before 4 t d = iblk m c 4 t :=
  before0_4_of m (dats m hH 0 c) (A_eq m hH c 4) (after0_4 m hH c) t d
theorem before0_5 (hH : Hyps m) (c : Dev nD) (t : Fin cfg0.N) (d) : (dats m hH 0 c).before 5 t d = iblk m c 5 t :=
  before0_5_of m (dats m hH 0 c) (A_eq m hH c 5) (after0_5 m hH c) t d
theorem before0_6 (hH : Hyps m) (c : Dev nD) (t : Fin cfg0.N) (d) : (dats m hH 0 c).before 6 t d = iblk m c 6 t :=
  before0_6_of m (dats m hH 0 c) (A_eq m hH c 6) (after0_6 m hH c) t d
theorem before0_7 (hH : Hyps m) (c : Dev nD) (t : Fin cfg0.N) (d) : (dats m hH 0 c).before 7 t d = iblk m c 7 t :=
  before0_7_of m (dats m hH 0 c) (A_eq m hH c 7) (after0_7 m hH c) t d
theorem before0_8 (hH : Hyps m) (c : Dev nD) (t : Fin cfg0.N) (d) : (dats m hH 0 c).before 8 t d = iblk m c 8 t :=
  before0_8_of m (dats m hH 0 c) (A_eq m hH c 8) (after0_8 m hH c) t d

/-! ## The body obligation, at a generic point -/

/-- What the body is called with at point `t` (Lib/Pipeline.lean `BodyObligation`'s precondition, the windows one by one), -/
def bodyPre (hH : Hyps m) (c : Dev nD) (t : Fin cfg0.N) : sProp (MT nD τ sig Unit (Elt F) ℕ (UR sig nD τ) ℕ) :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d))
    ∗ (∃ d, owns (c : Thread nD τ) (ms0_7 t) fullShare ((dats m hH 0 c).before 7 t d))
    ∗ (∃ d, owns (c : Thread nD τ) (ms0_8 t) fullShare ((dats m hH 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (hH : Hyps m) (c : Dev nD) (t : Fin cfg0.N) : sProp (MT nD τ sig Unit (Elt F) ℕ (UR sig nD τ) ℕ) :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ owns (c : Thread nD τ) (ms0_6 t) fullShare ((dats m hH 0 c).after 6 t)
    ∗ owns (c : Thread nD τ) (ms0_7 t) fullShare ((dats m hH 0 c).after 7 t)
    ∗ owns (c : Thread nD τ) (ms0_8 t) fullShare ((dats m hH 0 c).after 8 t)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 1200000 in
/-- The body at any point: the inputs' memrefs hold their blocks (`before0_W`); so the
    run applies; the invariant passes through unread; the core owes nothing throughout. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5, before0_6, before0_7, before0_8]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (Hyps.c0 hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : Hyps m) (c : Dev nD) : BodyObligation (dats (F := F) m hH 0 c) (defs₀ (F := F)) Variants.none () Set.univ forgets0 := fun t => by
  rw [bigSep_W0, bigSep_W0, defs₀_row]
  exact triple_restated (sound_body m hH c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent (hH : Hyps m) : θ_run defs (onTc (τ := τ) (main (F := F))) (s₀ m ρ) (fun r => (Pipeline.RDat.FramePostR (cfgs 0) (fun c => (dats m hH 0 c).toRForget forgets0) T0 (V m)) r ∧ r.2.sem = fun _ => 0) :=
  Pipeline.θ_run_frame_around_T_forget (Q' := _) cfgs (dats m hH) (0 : Fin 1) launch0 defs₀ Variants.none forgets0 T0 m ρ main
    (hbody := fun c => (body_obligation m hH c).loose) (hshare := fun c => (dats m hH 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m hH) (hΦ := fun _ _ => rfl)

/-- At the compiled mesh, for any values, from any memory with zero counters: every weakly fair execution of @main on the
    TensorCores terminates, and every final state has every INPUT array of the pipeline unchanged, nothing stated of the
    FORGOTTEN outputs (windows 9, 10, 11, 12, 13) (Lib/Pipeline/Frame.lean `RDat.FramePostR` over the proof data with those windows
    forgotten, Dat.lean `Dat.toRForget`), and every other unscoped buffer outside `T0` at its region-entry contents. -/
theorem run_main (hH : Hyps m) : θ_run defs (onTc (τ := τ) (main (F := F))) (s₀ m ρ) (Pipeline.RDat.FramePostR (cfgs 0) (fun c => (dats m hH 0 c).toRForget forgets0) T0 (V m)) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m hH 0 c).toRForget forgets0) (A_eq m hH) (run_main m ρ hH)

/-- The frame claim under `Hyps`: the program runs, its arguments end unchanged, every counter ends at zero. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hH) ((θ_run defs _ _).mono (fun _ h => h.2) (run_main_quiescent m ρ hH))

end Cert.Kernel.Run

end
-- ==== Proof.KernelLengths.lean ====
/- The sequence lengths steer the chunk loops of `Kernel`: when every length is at most 2048, every loop runs over chunks
   inside the cache, so the side conditions the body assumes hold at every grid point. -/
module

public import proofs.«01_k».proof.Defs
public import proofs.«01_k».proof.Proof.Chunks
public import proofs.«01_k».proof.Proof.KernelFrame
public import proofs.«01_k».proof.Proof.Gen.Pre_lengths_fit
public import Idealize.ShloMosaic.Lib.ReduceAll

@[expose] public section

namespace Cert.Kernel.Run

open Cert.Kernel Cert.Kernel.Gen
open Idealize.ShloMosaic Idealize.ShloMosaic.TcCoe
open Cert.Chunks

theorem t1_trips (v : BitVec 32) : (k0_t1_loop v).trips = num v := by
  show Scf.trips 0#32 (Scalar.addi 0#32 (Scalar.muli (Scalar.divsi (Scalar.subi (chunks v) 0#32) 1#32) 1#32)) 1#32 = _
  rw [bound_eq, trips_main]

theorem t1_ok (v : BitVec 32) (h : v.toInt ≤ 2048) : (k0_t1_loop v).OK := by
  show Scf.OK 0#32 (Scalar.addi 0#32 (Scalar.muli (Scalar.divsi (Scalar.subi (chunks v) 0#32) 1#32) 1#32)) 1#32
  rw [bound_eq]; exact ok_main v h

theorem t1_lt (v : BitVec 32) (h : v.toInt ≤ 2048) (t : Fin (k0_t1_loop v).trips) : t.val < 8 :=
  lt_of_lt_of_le (lt_of_lt_of_eq t.isLt (t1_trips v)) (num_le v h)

theorem t2_trips (v : BitVec 32) : (k0_t2_loop v).trips = 0 := by
  show Scf.trips (Scalar.addi 0#32 (Scalar.muli (Scalar.divsi (Scalar.subi (chunks v) 0#32) 1#32) 1#32)) (Scalar.addi 0#32 (Scalar.subi (chunks v) 0#32)) 1#32 = _
  rw [bound_eq, bound_eq', trips_rest]

theorem t2_ok (v : BitVec 32) (h : v.toInt ≤ 2048) : (k0_t2_loop v).OK := by
  show Scf.OK (Scalar.addi 0#32 (Scalar.muli (Scalar.divsi (Scalar.subi (chunks v) 0#32) 1#32) 1#32)) (Scalar.addi 0#32 (Scalar.subi (chunks v) 0#32)) 1#32
  rw [bound_eq, bound_eq']; exact ok_rest v h

theorem t2_none (v : BitVec 32) (t : Fin (k0_t2_loop v).trips) : False :=
  Nat.not_lt_zero _ (lt_of_lt_of_eq t.isLt (t2_trips v))

theorem t3_trips (v : BitVec 32) : (k0_t3_loop v).trips = num v := by
  show Scf.trips 0#32 (Scalar.addi 0#32 (Scalar.muli (Scalar.divsi (Scalar.subi (chunks v) 0#32) 1#32) 1#32)) 1#32 = _
  rw [bound_eq, trips_main]

theorem t3_ok (v : BitVec 32) (h : v.toInt ≤ 2048) : (k0_t3_loop v).OK := by
  show Scf.OK 0#32 (Scalar.addi 0#32 (Scalar.muli (Scalar.divsi (Scalar.subi (chunks v) 0#32) 1#32) 1#32)) 1#32
  rw [bound_eq]; exact ok_main v h

theorem t3_lt (v : BitVec 32) (h : v.toInt ≤ 2048) (t : Fin (k0_t3_loop v).trips) : t.val < 8 :=
  lt_of_lt_of_le (lt_of_lt_of_eq t.isLt (t3_trips v)) (num_le v h)

theorem t4_trips (v : BitVec 32) : (k0_t4_loop v).trips = 0 := by
  show Scf.trips (Scalar.addi 0#32 (Scalar.muli (Scalar.divsi (Scalar.subi (chunks v) 0#32) 1#32) 1#32)) (Scalar.addi 0#32 (Scalar.subi (chunks v) 0#32)) 1#32 = _
  rw [bound_eq, bound_eq', trips_rest]

theorem t4_ok (v : BitVec 32) (h : v.toInt ≤ 2048) : (k0_t4_loop v).OK := by
  show Scf.OK (Scalar.addi 0#32 (Scalar.muli (Scalar.divsi (Scalar.subi (chunks v) 0#32) 1#32) 1#32)) (Scalar.addi 0#32 (Scalar.subi (chunks v) 0#32)) 1#32
  rw [bound_eq, bound_eq']; exact ok_rest v h

theorem t4_none (v : BitVec 32) (t : Fin (k0_t4_loop v).trips) : False :=
  Nat.not_lt_zero _ (lt_of_lt_of_eq t.isLt (t4_trips v))

theorem t5_trips (v : BitVec 32) : (k0_t5_loop v).trips = num v := by
  show Scf.trips 0#32 (Scalar.addi 0#32 (Scalar.muli (Scalar.divsi (Scalar.subi (chunks v) 0#32) 1#32) 1#32)) 1#32 = _
  rw [bound_eq, trips_main]

theorem t5_ok (v : BitVec 32) (h : v.toInt ≤ 2048) : (k0_t5_loop v).OK := by
  show Scf.OK 0#32 (Scalar.addi 0#32 (Scalar.muli (Scalar.divsi (Scalar.subi (chunks v) 0#32) 1#32) 1#32)) 1#32
  rw [bound_eq]; exact ok_main v h

theorem t5_lt (v : BitVec 32) (h : v.toInt ≤ 2048) (t : Fin (k0_t5_loop v).trips) : t.val < 8 :=
  lt_of_lt_of_le (lt_of_lt_of_eq t.isLt (t5_trips v)) (num_le v h)

theorem t6_trips (v : BitVec 32) : (k0_t6_loop v).trips = 0 := by
  show Scf.trips (Scalar.addi 0#32 (Scalar.muli (Scalar.divsi (Scalar.subi (chunks v) 0#32) 1#32) 1#32)) (Scalar.addi 0#32 (Scalar.subi (chunks v) 0#32)) 1#32 = _
  rw [bound_eq, bound_eq', trips_rest]

theorem t6_ok (v : BitVec 32) (h : v.toInt ≤ 2048) : (k0_t6_loop v).OK := by
  show Scf.OK (Scalar.addi 0#32 (Scalar.muli (Scalar.divsi (Scalar.subi (chunks v) 0#32) 1#32) 1#32)) (Scalar.addi 0#32 (Scalar.subi (chunks v) 0#32)) 1#32
  rw [bound_eq, bound_eq']; exact ok_rest v h

theorem t6_none (v : BitVec 32) (t : Fin (k0_t6_loop v).trips) : False :=
  Nat.not_lt_zero _ (lt_of_lt_of_eq t.isLt (t6_trips v))

theorem t7_trips (v : BitVec 32) : (k0_t7_loop v).trips = num v := by
  show Scf.trips 0#32 (Scalar.addi 0#32 (Scalar.muli (Scalar.divsi (Scalar.subi (chunks v) 0#32) 1#32) 1#32)) 1#32 = _
  rw [bound_eq, trips_main]

theorem t7_ok (v : BitVec 32) (h : v.toInt ≤ 2048) : (k0_t7_loop v).OK := by
  show Scf.OK 0#32 (Scalar.addi 0#32 (Scalar.muli (Scalar.divsi (Scalar.subi (chunks v) 0#32) 1#32) 1#32)) 1#32
  rw [bound_eq]; exact ok_main v h

theorem t7_lt (v : BitVec 32) (h : v.toInt ≤ 2048) (t : Fin (k0_t7_loop v).trips) : t.val < 8 :=
  lt_of_lt_of_le (lt_of_lt_of_eq t.isLt (t7_trips v)) (num_le v h)

theorem t8_trips (v : BitVec 32) : (k0_t8_loop v).trips = 0 := by
  show Scf.trips (Scalar.addi 0#32 (Scalar.muli (Scalar.divsi (Scalar.subi (chunks v) 0#32) 1#32) 1#32)) (Scalar.addi 0#32 (Scalar.subi (chunks v) 0#32)) 1#32 = _
  rw [bound_eq, bound_eq', trips_rest]

theorem t8_ok (v : BitVec 32) (h : v.toInt ≤ 2048) : (k0_t8_loop v).OK := by
  show Scf.OK (Scalar.addi 0#32 (Scalar.muli (Scalar.divsi (Scalar.subi (chunks v) 0#32) 1#32) 1#32)) (Scalar.addi 0#32 (Scalar.subi (chunks v) 0#32)) 1#32
  rw [bound_eq, bound_eq']; exact ok_rest v h

theorem t8_none (v : BitVec 32) (t : Fin (k0_t8_loop v).trips) : False :=
  Nat.not_lt_zero _ (lt_of_lt_of_eq t.isLt (t8_trips v))

/-- The row range a chunk's codes are read from lies in the cache. -/
theorem codes_inb (j k : ℕ) (hj : j < 2) (hk : k < 8) : ∀ a, (![0, j, 256 * k, 0] : Fin 4 → ℕ) a + S1x1x256x128.size a ≤ S1x2x2048x128.size a := by
  intro a; fin_cases a
  · show 0 + 1 ≤ 1; omega
  · show j + 1 ≤ 2; omega
  · show 256 * k + 256 ≤ 2048; omega
  · show 0 + 128 ≤ 128; omega

theorem scales_inb (j k : ℕ) (hj : j < 2) (hk : k < 8) : ∀ a, (![0, j, 256 * k] : Fin 3 → ℕ) a + S1x1x256.size a ≤ S1x2x2048.size a := by
  intro a; fin_cases a
  · show 0 + 1 ≤ 1; omega
  · show j + 1 ≤ 2; omega
  · show 256 * k + 256 ≤ 2048; omega

theorem off2_eq (v : BitVec 32) (h : v.toInt ≤ 2048) (t : Fin (k0_t1_loop v).trips) : k0_off2 v t = ![0, 0, 256 * t.val, 0] := by
  show (![0, 0, (Scalar.muli (Scf.iv 0#32 1#32 t) 256#32).toNat, 0] : Fin 4 → ℕ) = _
  rw [toNat_pos _ (t1_lt v h t)]

theorem off3_eq (v : BitVec 32) (h : v.toInt ≤ 2048) (t : Fin (k0_t1_loop v).trips) : k0_off3 v t = ![0, 0, 256 * t.val] := by
  show (![0, 0, (Scalar.muli (Scf.iv 0#32 1#32 t) 256#32).toNat] : Fin 3 → ℕ) = _
  rw [toNat_pos _ (t1_lt v h t)]

theorem off6_eq (v : BitVec 32) (h : v.toInt ≤ 2048) (t : Fin (k0_t3_loop v).trips) : k0_off6 v t = ![0, 0, 256 * t.val, 0] := by
  show (![0, 0, (Scalar.muli (Scf.iv 0#32 1#32 t) 256#32).toNat, 0] : Fin 4 → ℕ) = _
  rw [toNat_pos _ (t3_lt v h t)]

theorem off7_eq (v : BitVec 32) (h : v.toInt ≤ 2048) (t : Fin (k0_t3_loop v).trips) : k0_off7 v t = ![0, 0, 256 * t.val] := by
  show (![0, 0, (Scalar.muli (Scf.iv 0#32 1#32 t) 256#32).toNat] : Fin 3 → ℕ) = _
  rw [toNat_pos _ (t3_lt v h t)]

theorem off10_eq (v : BitVec 32) (h : v.toInt ≤ 2048) (t : Fin (k0_t5_loop v).trips) : k0_off10 v t = ![0, 1, 256 * t.val, 0] := by
  show (![0, 1, (Scalar.muli (Scf.iv 0#32 1#32 t) 256#32).toNat, 0] : Fin 4 → ℕ) = _
  rw [toNat_pos _ (t5_lt v h t)]

theorem off11_eq (v : BitVec 32) (h : v.toInt ≤ 2048) (t : Fin (k0_t5_loop v).trips) : k0_off11 v t = ![0, 1, 256 * t.val] := by
  show (![0, 1, (Scalar.muli (Scf.iv 0#32 1#32 t) 256#32).toNat] : Fin 3 → ℕ) = _
  rw [toNat_pos _ (t5_lt v h t)]

theorem off14_eq (v : BitVec 32) (h : v.toInt ≤ 2048) (t : Fin (k0_t7_loop v).trips) : k0_off14 v t = ![0, 1, 256 * t.val, 0] := by
  show (![0, 1, (Scalar.muli (Scf.iv 0#32 1#32 t) 256#32).toNat, 0] : Fin 4 → ℕ) = _
  rw [toNat_pos _ (t7_lt v h t)]

theorem off15_eq (v : BitVec 32) (h : v.toInt ≤ 2048) (t : Fin (k0_t7_loop v).trips) : k0_off15 v t = ![0, 1, 256 * t.val] := by
  show (![0, 1, (Scalar.muli (Scf.iv 0#32 1#32 t) 256#32).toNat] : Fin 3 → ℕ) = _
  rw [toNat_pos _ (t7_lt v h t)]

theorem mult_dvd (k : ℕ) (hk : k < 8) : 256 ∣ (Scalar.muli (Scf.iv 0#32 1#32 k) 256#32).toNat := by
  rw [toNat_pos k hk]; exact Dvd.intro _ rfl

/-- THE SIDE CONDITIONS the body assumes of a length, when it is at most 2048. -/
theorem chk1_of_le (v : BitVec 32) (h : v.toInt ≤ 2048) : k0_chk1 v :=
  ⟨⟨t1_ok v h,
    fun t => mult_dvd _ (t1_lt v h t),
    fun t => by rw [off2_eq v h t]; exact codes_inb 0 _ (by decide) (t1_lt v h t),
    fun t => by rw [off3_eq v h t]; exact scales_inb 0 _ (by decide) (t1_lt v h t),
    t2_ok v h,
    fun t => (t2_none v t).elim,
    fun t => (t2_none v t).elim,
    fun t => (t2_none v t).elim,
    t3_ok v h,
    fun t => mult_dvd _ (t3_lt v h t),
    fun t => by rw [off6_eq v h t]; exact codes_inb 0 _ (by decide) (t3_lt v h t),
    fun t => by rw [off7_eq v h t]; exact scales_inb 0 _ (by decide) (t3_lt v h t),
    fun t => mult_dvd _ (t3_lt v h t),
    t4_ok v h,
    fun t => (t4_none v t).elim,
    fun t => (t4_none v t).elim,
    fun t => (t4_none v t).elim,
    fun t => (t4_none v t).elim,
    t5_ok v h,
    fun t => mult_dvd _ (t5_lt v h t),
    fun t => by rw [off10_eq v h t]; exact codes_inb 1 _ (by decide) (t5_lt v h t),
    fun t => by rw [off11_eq v h t]; exact scales_inb 1 _ (by decide) (t5_lt v h t),
    t6_ok v h,
    fun t => (t6_none v t).elim,
    fun t => (t6_none v t).elim,
    fun t => (t6_none v t).elim,
    t7_ok v h,
    fun t => mult_dvd _ (t7_lt v h t),
    fun t => by rw [off14_eq v h t]; exact codes_inb 1 _ (by decide) (t7_lt v h t),
    fun t => by rw [off15_eq v h t]; exact scales_inb 1 _ (by decide) (t7_lt v h t),
    fun t => mult_dvd _ (t7_lt v h t),
    t8_ok v h⟩,
   ⟨fun t => (t8_none v t).elim, fun t => (t8_none v t).elim, fun t => (t8_none v t).elim, fun t => (t8_none v t).elim⟩⟩

/-- Under the precondition every length is at most 2048. -/
theorem len_of_pre [hP : Cert.Pre_lengths_fit.Facts] (m : (ℓ : Loc nD τ sig) → Buf (Elt Bits) ℓ) (h : Cert.Pre_Kernel m) (c : Dev nD) (y : S64.Idx) :
    (m ((c : Thread nD τ).loc main_arg7) y).toInt ≤ 2048 := by
  have e := congrFun (h c) (Shape.Idx.first hP.h_S_)
  have e1 := e
  simp only [Cert.Pre_lengths_fit.fn] at e1
  haveI : Subsingleton (Cert.Pre_lengths_fit.S_).Idx := ⟨fun a b => by funext i; exact i.elim0⟩
  have e2 := Host.reduce_andi_all _ _ _ _ _ e1 y
  have e3 := (WordArith.ofBool_eq_one_iff _).1 e2
  have := BitVec.sle_iff_toInt_le.1 e3
  exact this

/-- The precondition gives the side conditions at every grid point. -/
theorem hyps_of_pre [hP : Cert.Pre_lengths_fit.Facts] (m : (ℓ : Loc nD τ sig) → Buf (Elt Bits) ℓ) (h : Cert.Pre_Kernel m) : Hyps m := by
  intro c t
  have rd : ∀ i, (iblk m c 0 t i).toInt ≤ 2048 := fun i => by
    unfold iblk; rw [View.read_apply, cast_eq]; exact len_of_pre m h c _
  simp only [View.readAt_apply, Memref.IsWhole.read_unread]; exact chk1_of_le _ (rd _)

end Cert.Kernel.Run
-- ==== Proof.KernelIdealRun.lean ====
/-
  One run of `KernelIdeal`'s kernel body on any whole staging buffers, by symbolic execution: the four loops over the cache
  go by their generated invariants, and the word the side conditions are about (the request's cache length, read from
  scalar memory at the grid point) is a hypothesis. What the stores leave in each output is found by the run.
-/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg1 : Memref sig .tc .smem S64 .i32) (harg1 : arg1.IsWhole) (arg2 : Memref sig .tc .vmem S1x32x32x128 .bf16) (harg2 : arg2.IsWhole) (arg3 : Memref sig .tc .vmem S1x32x2x128 .bf16) (harg3 : arg3.IsWhole) (arg4 : Memref sig .tc .vmem S1x32x2x128 .bf16) (harg4 : arg4.IsWhole) (arg5 : Memref sig .tc .vmem S1x2x2048x128 .fp8e4m3) (harg5 : arg5.IsWhole) (arg6 : Memref sig .tc .vmem S1x2x2048 .f32) (harg6 : arg6.IsWhole) (arg7 : Memref sig .tc .vmem S1x2x2048x128 .fp8e4m3) (harg7 : arg7.IsWhole) (arg8 : Memref sig .tc .vmem S1x2x2048 .f32) (harg8 : arg8.IsWhole) (arg9 : Memref sig .tc .vmem S32x512 .f32) (harg9 : arg9.IsWhole) (arg10 : Memref sig .tc .vmem S1x32x32x128 .bf16) (harg10 : arg10.IsWhole) (arg11 : Memref sig .tc .vmem S1x2x32x128 .fp8e4m3) (harg11 : arg11.IsWhole) (arg12 : Memref sig .tc .vmem S1x2x32x1 .f32) (harg12 : arg12.IsWhole) (arg13 : Memref sig .tc .vmem S1x2x32x128 .fp8e4m3) (harg13 : arg13.IsWhole) (arg14 : Memref sig .tc .vmem S1x2x32x1 .f32) (harg14 : arg14.IsWhole)
  (x0 : Vec F S64 .i32) (x1 : Vec F S1x32x32x128 .bf16) (x2 : Vec F S1x32x2x128 .bf16) (x3 : Vec F S1x32x2x128 .bf16) (x4 : Vec F S1x2x2048x128 .fp8e4m3) (x5 : Vec F S1x2x2048 .f32) (x6 : Vec F S1x2x2048x128 .fp8e4m3) (x7 : Vec F S1x2x2048 .f32) (x8 : Vec F S32x512 .f32) (k0_hw1 : k0_chk1 (arg1.view.readAt (Elt F) (Rect.unit (s := S64) (k0_off1 i) S1.size (k0_off1_inb i)).toLoadRect (harg1.unread x0) (Shape.Idx.first (numel1_S1.symm ▸ Nat.one_pos))))

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A :
    Σ' (L9 : List (View.Piece (Elt F) S1x32x32x128 .bf16)), Σ' (L10 : List (View.Piece (Elt F) S1x2x32x128 .fp8e4m3)), Σ' (L11 : List (View.Piece (Elt F) S1x2x32x1 .f32)), Σ' (L12 : List (View.Piece (Elt F) S1x2x32x128 .fp8e4m3)), { L13 : List (View.Piece (Elt F) S1x2x32x1 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
          ⊢ wp frame (wpE (defs₀ (F := F)) Variants.none c none) E (cc0_tree_attn i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_tree_attn_eq_skeleton]; unfold cc0_tree_attn_skel
    simp only [k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact k0_hw1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    iexists _; iexact H13

end Cert.KernelIdeal.Run

end
-- ==== Proof.KernelIdealFrame.lean ====
/-
  The frame of `KernelIdeal`: what the outputs' staging buffers hold after each grid point, the pipeline's proof data, the
  body obligation, and the run of @main around its one region. It holds under `Hyps`, the kernel's side conditions at
  every point, which the precondition on the cache lengths gives (`Lengths.lean`).
-/
module

public import proofs.«01_k».proof.Proof.KernelIdealRun
public import Idealize.ShloMosaic.Lib.Claim
public import Idealize.ShloMosaic.Lib.Pipeline.FrameSuffix

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Pieces

variable (c : Dev nD) (i : grid0.Coords) (arg1 : Memref sig .tc .smem S64 .i32) (harg1 : arg1.IsWhole) (arg2 : Memref sig .tc .vmem S1x32x32x128 .bf16) (harg2 : arg2.IsWhole) (arg3 : Memref sig .tc .vmem S1x32x2x128 .bf16) (harg3 : arg3.IsWhole) (arg4 : Memref sig .tc .vmem S1x32x2x128 .bf16) (harg4 : arg4.IsWhole) (arg5 : Memref sig .tc .vmem S1x2x2048x128 .fp8e4m3) (harg5 : arg5.IsWhole) (arg6 : Memref sig .tc .vmem S1x2x2048 .f32) (harg6 : arg6.IsWhole) (arg7 : Memref sig .tc .vmem S1x2x2048x128 .fp8e4m3) (harg7 : arg7.IsWhole) (arg8 : Memref sig .tc .vmem S1x2x2048 .f32) (harg8 : arg8.IsWhole) (arg9 : Memref sig .tc .vmem S32x512 .f32) (harg9 : arg9.IsWhole) (arg10 : Memref sig .tc .vmem S1x32x32x128 .bf16) (harg10 : arg10.IsWhole) (arg11 : Memref sig .tc .vmem S1x2x32x128 .fp8e4m3) (harg11 : arg11.IsWhole) (arg12 : Memref sig .tc .vmem S1x2x32x1 .f32) (harg12 : arg12.IsWhole) (arg13 : Memref sig .tc .vmem S1x2x32x128 .fp8e4m3) (harg13 : arg13.IsWhole) (arg14 : Memref sig .tc .vmem S1x2x32x1 .f32) (harg14 : arg14.IsWhole)
  (x0 : Vec F S64 .i32) (x1 : Vec F S1x32x32x128 .bf16) (x2 : Vec F S1x32x2x128 .bf16) (x3 : Vec F S1x32x2x128 .bf16) (x4 : Vec F S1x2x2048x128 .fp8e4m3) (x5 : Vec F S1x2x2048 .f32) (x6 : Vec F S1x2x2048x128 .fp8e4m3) (x7 : Vec F S1x2x2048 .f32) (x8 : Vec F S32x512 .f32) (k0_hw1 : k0_chk1 (arg1.view.readAt (Elt F) (Rect.unit (s := S64) (k0_off1 i) S1.size (k0_off1_inb i)).toLoadRect (harg1.unread x0) (Shape.Idx.first (numel1_S1.symm ▸ Nat.one_pos))))

/-! ## The kernel body on any staging memrefs: a subtype the run finds -/

/-- One staging buffer of output window 9, through which its contents are stated (`View.read_writes_of_cover`: the
    choice does not matter). -/
abbrev VO0_9 : View sig .tc .vmem S1x32x32x128 .bf16 := (Memref.whole cc0_stg9_0 : Memref sig .tc .vmem S1x32x32x128 .bf16).view
/-- One staging buffer of output window 10, through which its contents are stated (`View.read_writes_of_cover`: the
    choice does not matter). -/
abbrev VO0_10 : View sig .tc .vmem S1x2x32x128 .fp8e4m3 := (Memref.whole cc0_stg10_0 : Memref sig .tc .vmem S1x2x32x128 .fp8e4m3).view
/-- One staging buffer of output window 11, through which its contents are stated (`View.read_writes_of_cover`: the
    choice does not matter). -/
abbrev VO0_11 : View sig .tc .vmem S1x2x32x1 .f32 := (Memref.whole cc0_stg11_0 : Memref sig .tc .vmem S1x2x32x1 .f32).view
/-- One staging buffer of output window 12, through which its contents are stated (`View.read_writes_of_cover`: the
    choice does not matter). -/
abbrev VO0_12 : View sig .tc .vmem S1x2x32x128 .fp8e4m3 := (Memref.whole cc0_stg12_0 : Memref sig .tc .vmem S1x2x32x128 .fp8e4m3).view
/-- One staging buffer of output window 13, through which its contents are stated (`View.read_writes_of_cover`: the
    choice does not matter). -/
abbrev VO0_13 : View sig .tc .vmem S1x2x32x1 .f32 := (Memref.whole cc0_stg13_0 : Memref sig .tc .vmem S1x2x32x1 .f32).view

/-- The run's pieces for output 9 tile its block (2 stores of `S1x32x16x128`, checked by the kernel's evaluation: Lib/Ring.lean `Piece.tiledL`, linear in the pieces, through a loop's `@[irreducible]` trip theorem too), so they cover it. -/
theorem cover0_A_9 (y : S1x32x32x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).1 S1x32x16x128.size (by sl_kernel_rfl) y

/-- What the run leaves in output 9's staging buffer: its pieces read back over junk. -/
def out0_A_9 : Vec F S1x32x32x128 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).1)

/-- The run's pieces for output 10 tile its block (2 stores of `S1x1x32x128`, checked by the kernel's evaluation: Lib/Ring.lean `Piece.tiledL`, linear in the pieces, through a loop's `@[irreducible]` trip theorem too), so they cover it. -/
theorem cover0_A_10 (y : S1x2x32x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).2.1 S1x1x32x128.size (by sl_kernel_rfl) y

/-- What the run leaves in output 10's staging buffer: its pieces read back over junk. -/
def out0_A_10 : Vec F S1x2x32x128 .fp8e4m3 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).2.1)

/-- The run's pieces for output 11 tile its block (2 stores of `S1x1x32x1`, checked by the kernel's evaluation: Lib/Ring.lean `Piece.tiledL`, linear in the pieces, through a loop's `@[irreducible]` trip theorem too), so they cover it. -/
theorem cover0_A_11 (y : S1x2x32x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).2.2.1 S1x1x32x1.size (by sl_kernel_rfl) y

/-- What the run leaves in output 11's staging buffer: its pieces read back over junk. -/
def out0_A_11 : Vec F S1x2x32x1 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).2.2.1)

/-- The run's pieces for output 12 tile its block (2 stores of `S1x1x32x128`, checked by the kernel's evaluation: Lib/Ring.lean `Piece.tiledL`, linear in the pieces, through a loop's `@[irreducible]` trip theorem too), so they cover it. -/
theorem cover0_A_12 (y : S1x2x32x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).2.2.2.1 S1x1x32x128.size (by sl_kernel_rfl) y

/-- What the run leaves in output 12's staging buffer: its pieces read back over junk. -/
def out0_A_12 : Vec F S1x2x32x128 .fp8e4m3 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).2.2.2.1)

/-- The run's pieces for output 13 tile its block (2 stores of `S1x1x32x1`, checked by the kernel's evaluation: Lib/Ring.lean `Piece.tiledL`, linear in the pieces, through a loop's `@[irreducible]` trip theorem too), so they cover it. -/
theorem cover0_A_13 (y : S1x2x32x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).2.2.2.2.1 S1x1x32x1.size (by sl_kernel_rfl) y

/-- What the run leaves in output 13's staging buffer: its pieces read back over junk. -/
def out0_A_13 : Vec F S1x2x32x1 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).2.2.2.2.1)

end Pieces

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .smem S64 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x32x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x2x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x2x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x2048x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x2048x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x32x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x32x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2x32x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2x32x128 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2x32x1 .f32 := win0_13.stage (cfg0.slots t 13)
abbrev hs0_13 (t : Fin cfg0.N) : (ms0_13 t).IsWhole := hstage0_13 ((cfg0.slots t 13).cast nbuf0_13)

/-! ## The side conditions the body assumes, as the frame's hypothesis -/

/-- The side conditions the body ASSUMES of words it loads from its input SMEM windows, or inside a counted
    loop of the loop's carried counter at every trip (the printed `TpuEff.assume
    (kK_chkN …)`: facts computed from the words that no program decides for every word), at EVERY point, over the
    words of the argument blocks there — spelled as each case's run reads them (`View.readAt` through the window's
    memref at its held contents), each under the conditions of the branches it sits inside. The frame holds
    under it; Proof.lean proves it from the certificate's
    precondition (`hyps_of_pre`; `View.readAt_apply` and `Memref.IsWhole.read_unread` rewrite a conjunct to the
    predicate at the block's word). -/
def Hyps (m : (ℓ : Loc nD τ sig) → Buf (Elt F) ℓ) : Prop :=
  ∀ (c : Dev nD) (t : Fin cfg0.N),
    k0_chk1 ((ms0_0 t).view.readAt (Elt F) (Rect.unit (s := S64) (k0_off1 (grid0.coords t)) S1.size (k0_off1_inb (grid0.coords t))).toLoadRect ((hs0_0 t).unread (iblk m c 0 t)) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (c : Dev nD) (t : Fin cfg0.N) : Prop :=
  k0_chk1 ((ms0_0 t).view.readAt (Elt F) (Rect.unit (s := S64) (k0_off1 (grid0.coords t)) S1.size (k0_off1_inb (grid0.coords t))).toLoadRect ((hs0_0 t).unread (iblk m c 0 t)) (Shape.Idx.first (numel1_S1.symm ▸ Nat.one_pos)))
variable {m} in
theorem Hyps.c0 (hH : Hyps m) (c : Dev nD) (t : Fin cfg0.N) :
    k0_chk1 ((ms0_0 t).view.readAt (Elt F) (Rect.unit (s := S64) (k0_off1 (grid0.coords t)) S1.size (k0_off1_inb (grid0.coords t))).toLoadRect ((hs0_0 t).unread (iblk m c 0 t)) (Shape.Idx.first (numel1_S1.symm ▸ Nat.one_pos))) := (hH c t)
variable {m} in
theorem Hyps.of
    (p0 : ∀ (c : Dev nD) (t : Fin cfg0.N), Hyps.p0 m c t) :
    Hyps m := fun c t =>
  p0 c t

/-! ## What the outputs hold after each point -/

/-- What the outputs' staging buffers hold after the body at point `t` (as a tuple, in window order): the run's contents at
    the point's memrefs and input blocks. -/
def outsAt0 (hH : Hyps m) (c : Dev nD) (t : Fin cfg0.N) : Vec F S1x32x32x128 .bf16 × Vec F S1x2x32x128 .fp8e4m3 × Vec F S1x2x32x1 .f32 × Vec F S1x2x32x128 .fp8e4m3 × Vec F S1x2x32x1 .f32 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (Hyps.c0 hH c t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (Hyps.c0 hH c t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (Hyps.c0 hH c t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (Hyps.c0 hH c t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (Hyps.c0 hH c t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m hH c t).1
    | ⟨10, _⟩ => (outsAt0 m hH c t).2.1
    | ⟨11, _⟩ => (outsAt0 m hH c t).2.2.1
    | ⟨12, _⟩ => (outsAt0 m hH c t).2.2.2.1
    | ⟨13, _⟩ => (outsAt0 m hH c t).2.2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (hH : Hyps m) (c : Dev nD) (w : Fin cfg0.W) : (dats m hH 0 c).A w = V m c (Pipeline.arrRef spec0 w) := by
  dsimp only [dats]

/-- What the body leaves, window by window (the proof data's `match` reduced by `dsimp`). -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]
theorem after0_4 (hH : Hyps m) (c : Dev nD) (t : Fin cfg0.N) : (dats m hH 0 c).after 4 t = iblk m c 4 t := by dsimp only [dats]
theorem after0_5 (hH : Hyps m) (c : Dev nD) (t : Fin cfg0.N) : (dats m hH 0 c).after 5 t = iblk m c 5 t := by dsimp only [dats]
theorem after0_6 (hH : Hyps m) (c : Dev nD) (t : Fin cfg0.N) : (dats m hH 0 c).after 6 t = iblk m c 6 t := by dsimp only [dats]
theorem after0_7 (hH : Hyps m) (c : Dev nD) (t : Fin cfg0.N) : (dats m hH 0 c).after 7 t = iblk m c 7 t := by dsimp only [dats]
theorem after0_8 (hH : Hyps m) (c : Dev nD) (t : Fin cfg0.N) : (dats m hH 0 c).after 8 t = iblk m c 8 t := by dsimp only [dats]
theorem after0_9 (hH : Hyps m) (c : Dev nD) (t : Fin cfg0.N) : (dats m hH 0 c).after 9 t = (outsAt0 m hH c t).1 := by dsimp only [dats]
theorem after0_10 (hH : Hyps m) (c : Dev nD) (t : Fin cfg0.N) : (dats m hH 0 c).after 10 t = (outsAt0 m hH c t).2.1 := by dsimp only [dats]
theorem after0_11 (hH : Hyps m) (c : Dev nD) (t : Fin cfg0.N) : (dats m hH 0 c).after 11 t = (outsAt0 m hH c t).2.2.1 := by dsimp only [dats]
theorem after0_12 (hH : Hyps m) (c : Dev nD) (t : Fin cfg0.N) : (dats m hH 0 c).after 12 t = (outsAt0 m hH c t).2.2.2.1 := by dsimp only [dats]
theorem after0_13 (hH : Hyps m) (c : Dev nD) (t : Fin cfg0.N) : (dats m hH 0 c).after 13 t = (outsAt0 m hH c t).2.2.2.2 := by dsimp only [dats]

/-- Each input's current staging buffer holds its block at every point, fetched there or not (`beforeK_W_of`). -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
theorem before0_4 (hH : Hyps m) (c : Dev nD) (t : Fin cfg0.N) (d) : (dats m hH 0 c).before 4 t d = iblk m c 4 t :=
  before0_4_of m (dats m hH 0 c) (A_eq m hH c 4) (after0_4 m hH c) t d
theorem before0_5 (hH : Hyps m) (c : Dev nD) (t : Fin cfg0.N) (d) : (dats m hH 0 c).before 5 t d = iblk m c 5 t :=
  before0_5_of m (dats m hH 0 c) (A_eq m hH c 5) (after0_5 m hH c) t d
theorem before0_6 (hH : Hyps m) (c : Dev nD) (t : Fin cfg0.N) (d) : (dats m hH 0 c).before 6 t d = iblk m c 6 t :=
  before0_6_of m (dats m hH 0 c) (A_eq m hH c 6) (after0_6 m hH c) t d
theorem before0_7 (hH : Hyps m) (c : Dev nD) (t : Fin cfg0.N) (d) : (dats m hH 0 c).before 7 t d = iblk m c 7 t :=
  before0_7_of m (dats m hH 0 c) (A_eq m hH c 7) (after0_7 m hH c) t d
theorem before0_8 (hH : Hyps m) (c : Dev nD) (t : Fin cfg0.N) (d) : (dats m hH 0 c).before 8 t d = iblk m c 8 t :=
  before0_8_of m (dats m hH 0 c) (A_eq m hH c 8) (after0_8 m hH c) t d

/-! ## The body obligation, at a generic point -/

/-- What the body is called with at point `t` (Lib/Pipeline.lean `BodyObligation`'s precondition, the windows one by one), -/
def bodyPre (hH : Hyps m) (c : Dev nD) (t : Fin cfg0.N) : sProp (MT nD τ sig Unit (Elt F) ℕ (UR sig nD τ) ℕ) :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d))
    ∗ (∃ d, owns (c : Thread nD τ) (ms0_7 t) fullShare ((dats m hH 0 c).before 7 t d))
    ∗ (∃ d, owns (c : Thread nD τ) (ms0_8 t) fullShare ((dats m hH 0 c).before 8 t d))
    ∗ (∃ d, owns (c : Thread nD τ) (ms0_9 t) fullShare ((dats m hH 0 c).before 9 t d))
    ∗ (∃ d, owns (c : Thread nD τ) (ms0_10 t) fullShare ((dats m hH 0 c).before 10 t d))
    ∗ (∃ d, owns (c : Thread nD τ) (ms0_11 t) fullShare ((dats m hH 0 c).before 11 t d))
    ∗ (∃ d, owns (c : Thread nD τ) (ms0_12 t) fullShare ((dats m hH 0 c).before 12 t d))
    ∗ (∃ d, owns (c : Thread nD τ) (ms0_13 t) fullShare ((dats m hH 0 c).before 13 t d)))

/-- and what it returns. -/
def bodyPost (hH : Hyps m) (c : Dev nD) (t : Fin cfg0.N) : sProp (MT nD τ sig Unit (Elt F) ℕ (UR sig nD τ) ℕ) :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ owns (c : Thread nD τ) (ms0_6 t) fullShare ((dats m hH 0 c).after 6 t)
    ∗ owns (c : Thread nD τ) (ms0_7 t) fullShare ((dats m hH 0 c).after 7 t)
    ∗ owns (c : Thread nD τ) (ms0_8 t) fullShare ((dats m hH 0 c).after 8 t)
    ∗ owns (c : Thread nD τ) (ms0_9 t) fullShare ((dats m hH 0 c).after 9 t)
    ∗ owns (c : Thread nD τ) (ms0_10 t) fullShare ((dats m hH 0 c).after 10 t)
    ∗ owns (c : Thread nD τ) (ms0_11 t) fullShare ((dats m hH 0 c).after 11 t)
    ∗ owns (c : Thread nD τ) (ms0_12 t) fullShare ((dats m hH 0 c).after 12 t)
    ∗ owns (c : Thread nD τ) (ms0_13 t) fullShare ((dats m hH 0 c).after 13 t))

set_option maxHeartbeats 1200000 in
/-- The body at any point: the inputs' memrefs hold their blocks (`before0_W`); so the
    run applies; the invariant passes through unread; the core owes nothing throughout. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5, before0_6, before0_7, before0_8]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8, after0_9, after0_10, after0_11, after0_12, after0_13]
  unfold outsAt0
  unfold out0_A_9 out0_A_10 out0_A_11 out0_A_12 out0_A_13; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (Hyps.c0 hH c t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, ⟨%e9, H9⟩, ⟨%e10, H10⟩, ⟨%e11, H11⟩, ⟨%e12, H12⟩, ⟨%e13, H13⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _)
  unfold owns; iexists _; isplitr
  swap; · iexact H13
  ipureintro; exact View.read_writes_of_cover _ _ _ _ _ (cover0_A_13 c _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : Hyps m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent (hH : Hyps m) : θ_run defs (onTc (τ := τ) (main (F := F))) (s₀ m ρ) (fun r => (Pipeline.FramePost cfgs (dats m hH) 0 (Pipeline.afterTail₀ cfgs (dats m hH) 0 (V0 m) [hostOps1])) r ∧ r.2.sem = fun _ => 0) :=
  Pipeline.θ_run_frame_around (Q' := _) cfgs (dats m hH) (0 : Fin 1) launch0 defs₀ Variants.none m ρ main
    (hbody := fun c => (body_obligation m hH c).loose) (hshare := fun c => (dats m hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hH) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hH : Hyps m) : θ_run defs (onTc (τ := τ) (main (F := F))) (s₀ m ρ) (Pipeline.FramePost cfgs (dats m hH) 0 (Pipeline.afterTail₀ cfgs (dats m hH) 0 (V0 m) [hostOps1])) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m hH) (A_eq m hH) (run_main m ρ hH)

/-- The frame claim under `Hyps`: the program runs, its arguments end unchanged, every counter ends at zero. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hH) ((θ_run defs _ _).mono (fun _ h => h.2) (run_main_quiescent m ρ hH))

end Cert.KernelIdeal.Run

end
-- ==== Proof.KernelIdealLengths.lean ====
/- The sequence lengths steer the chunk loops of `KernelIdeal`: when every length is at most 2048, every loop runs over chunks
   inside the cache, so the side conditions the body assumes hold at every grid point. -/
module

public import proofs.«01_k».proof.Defs
public import proofs.«01_k».proof.Proof.Chunks
public import proofs.«01_k».proof.Proof.KernelIdealFrame
public import proofs.«01_k».proof.Proof.Gen.Pre_lengths_fit
public import Idealize.ShloMosaic.Lib.ReduceAll

@[expose] public section

namespace Cert.KernelIdeal.Run

open Cert.KernelIdeal Cert.KernelIdeal.Gen
open Idealize.ShloMosaic Idealize.ShloMosaic.TcCoe
open Cert.Chunks

theorem t1_trips (v : BitVec 32) : (k0_t1_loop v).trips = num v := by
  show Scf.trips 0#32 (Scalar.addi 0#32 (Scalar.muli (Scalar.divsi (Scalar.subi (chunks v) 0#32) 1#32) 1#32)) 1#32 = _
  rw [bound_eq, trips_main]

theorem t1_ok (v : BitVec 32) (h : v.toInt ≤ 2048) : (k0_t1_loop v).OK := by
  show Scf.OK 0#32 (Scalar.addi 0#32 (Scalar.muli (Scalar.divsi (Scalar.subi (chunks v) 0#32) 1#32) 1#32)) 1#32
  rw [bound_eq]; exact ok_main v h

theorem t1_lt (v : BitVec 32) (h : v.toInt ≤ 2048) (t : Fin (k0_t1_loop v).trips) : t.val < 8 :=
  lt_of_lt_of_le (lt_of_lt_of_eq t.isLt (t1_trips v)) (num_le v h)

theorem t2_trips (v : BitVec 32) : (k0_t2_loop v).trips = 0 := by
  show Scf.trips (Scalar.addi 0#32 (Scalar.muli (Scalar.divsi (Scalar.subi (chunks v) 0#32) 1#32) 1#32)) (Scalar.addi 0#32 (Scalar.subi (chunks v) 0#32)) 1#32 = _
  rw [bound_eq, bound_eq', trips_rest]

theorem t2_ok (v : BitVec 32) (h : v.toInt ≤ 2048) : (k0_t2_loop v).OK := by
  show Scf.OK (Scalar.addi 0#32 (Scalar.muli (Scalar.divsi (Scalar.subi (chunks v) 0#32) 1#32) 1#32)) (Scalar.addi 0#32 (Scalar.subi (chunks v) 0#32)) 1#32
  rw [bound_eq, bound_eq']; exact ok_rest v h

theorem t2_none (v : BitVec 32) (t : Fin (k0_t2_loop v).trips) : False :=
  Nat.not_lt_zero _ (lt_of_lt_of_eq t.isLt (t2_trips v))

theorem t3_trips (v : BitVec 32) : (k0_t3_loop v).trips = num v := by
  show Scf.trips 0#32 (Scalar.addi 0#32 (Scalar.muli (Scalar.divsi (Scalar.subi (chunks v) 0#32) 1#32) 1#32)) 1#32 = _
  rw [bound_eq, trips_main]

theorem t3_ok (v : BitVec 32) (h : v.toInt ≤ 2048) : (k0_t3_loop v).OK := by
  show Scf.OK 0#32 (Scalar.addi 0#32 (Scalar.muli (Scalar.divsi (Scalar.subi (chunks v) 0#32) 1#32) 1#32)) 1#32
  rw [bound_eq]; exact ok_main v h

theorem t3_lt (v : BitVec 32) (h : v.toInt ≤ 2048) (t : Fin (k0_t3_loop v).trips) : t.val < 8 :=
  lt_of_lt_of_le (lt_of_lt_of_eq t.isLt (t3_trips v)) (num_le v h)

theorem t4_trips (v : BitVec 32) : (k0_t4_loop v).trips = 0 := by
  show Scf.trips (Scalar.addi 0#32 (Scalar.muli (Scalar.divsi (Scalar.subi (chunks v) 0#32) 1#32) 1#32)) (Scalar.addi 0#32 (Scalar.subi (chunks v) 0#32)) 1#32 = _
  rw [bound_eq, bound_eq', trips_rest]

theorem t4_ok (v : BitVec 32) (h : v.toInt ≤ 2048) : (k0_t4_loop v).OK := by
  show Scf.OK (Scalar.addi 0#32 (Scalar.muli (Scalar.divsi (Scalar.subi (chunks v) 0#32) 1#32) 1#32)) (Scalar.addi 0#32 (Scalar.subi (chunks v) 0#32)) 1#32
  rw [bound_eq, bound_eq']; exact ok_rest v h

theorem t4_none (v : BitVec 32) (t : Fin (k0_t4_loop v).trips) : False :=
  Nat.not_lt_zero _ (lt_of_lt_of_eq t.isLt (t4_trips v))

theorem t5_trips (v : BitVec 32) : (k0_t5_loop v).trips = num v := by
  show Scf.trips 0#32 (Scalar.addi 0#32 (Scalar.muli (Scalar.divsi (Scalar.subi (chunks v) 0#32) 1#32) 1#32)) 1#32 = _
  rw [bound_eq, trips_main]

theorem t5_ok (v : BitVec 32) (h : v.toInt ≤ 2048) : (k0_t5_loop v).OK := by
  show Scf.OK 0#32 (Scalar.addi 0#32 (Scalar.muli (Scalar.divsi (Scalar.subi (chunks v) 0#32) 1#32) 1#32)) 1#32
  rw [bound_eq]; exact ok_main v h

theorem t5_lt (v : BitVec 32) (h : v.toInt ≤ 2048) (t : Fin (k0_t5_loop v).trips) : t.val < 8 :=
  lt_of_lt_of_le (lt_of_lt_of_eq t.isLt (t5_trips v)) (num_le v h)

theorem t6_trips (v : BitVec 32) : (k0_t6_loop v).trips = 0 := by
  show Scf.trips (Scalar.addi 0#32 (Scalar.muli (Scalar.divsi (Scalar.subi (chunks v) 0#32) 1#32) 1#32)) (Scalar.addi 0#32 (Scalar.subi (chunks v) 0#32)) 1#32 = _
  rw [bound_eq, bound_eq', trips_rest]

theorem t6_ok (v : BitVec 32) (h : v.toInt ≤ 2048) : (k0_t6_loop v).OK := by
  show Scf.OK (Scalar.addi 0#32 (Scalar.muli (Scalar.divsi (Scalar.subi (chunks v) 0#32) 1#32) 1#32)) (Scalar.addi 0#32 (Scalar.subi (chunks v) 0#32)) 1#32
  rw [bound_eq, bound_eq']; exact ok_rest v h

theorem t6_none (v : BitVec 32) (t : Fin (k0_t6_loop v).trips) : False :=
  Nat.not_lt_zero _ (lt_of_lt_of_eq t.isLt (t6_trips v))

theorem t7_trips (v : BitVec 32) : (k0_t7_loop v).trips = num v := by
  show Scf.trips 0#32 (Scalar.addi 0#32 (Scalar.muli (Scalar.divsi (Scalar.subi (chunks v) 0#32) 1#32) 1#32)) 1#32 = _
  rw [bound_eq, trips_main]

theorem t7_ok (v : BitVec 32) (h : v.toInt ≤ 2048) : (k0_t7_loop v).OK := by
  show Scf.OK 0#32 (Scalar.addi 0#32 (Scalar.muli (Scalar.divsi (Scalar.subi (chunks v) 0#32) 1#32) 1#32)) 1#32
  rw [bound_eq]; exact ok_main v h

theorem t7_lt (v : BitVec 32) (h : v.toInt ≤ 2048) (t : Fin (k0_t7_loop v).trips) : t.val < 8 :=
  lt_of_lt_of_le (lt_of_lt_of_eq t.isLt (t7_trips v)) (num_le v h)

theorem t8_trips (v : BitVec 32) : (k0_t8_loop v).trips = 0 := by
  show Scf.trips (Scalar.addi 0#32 (Scalar.muli (Scalar.divsi (Scalar.subi (chunks v) 0#32) 1#32) 1#32)) (Scalar.addi 0#32 (Scalar.subi (chunks v) 0#32)) 1#32 = _
  rw [bound_eq, bound_eq', trips_rest]

theorem t8_ok (v : BitVec 32) (h : v.toInt ≤ 2048) : (k0_t8_loop v).OK := by
  show Scf.OK (Scalar.addi 0#32 (Scalar.muli (Scalar.divsi (Scalar.subi (chunks v) 0#32) 1#32) 1#32)) (Scalar.addi 0#32 (Scalar.subi (chunks v) 0#32)) 1#32
  rw [bound_eq, bound_eq']; exact ok_rest v h

theorem t8_none (v : BitVec 32) (t : Fin (k0_t8_loop v).trips) : False :=
  Nat.not_lt_zero _ (lt_of_lt_of_eq t.isLt (t8_trips v))

/-- The row range a chunk's codes are read from lies in the cache. -/
theorem codes_inb (j k : ℕ) (hj : j < 2) (hk : k < 8) : ∀ a, (![0, j, 256 * k, 0] : Fin 4 → ℕ) a + S1x1x256x128.size a ≤ S1x2x2048x128.size a := by
  intro a; fin_cases a
  · show 0 + 1 ≤ 1; omega
  · show j + 1 ≤ 2; omega
  · show 256 * k + 256 ≤ 2048; omega
  · show 0 + 128 ≤ 128; omega

theorem scales_inb (j k : ℕ) (hj : j < 2) (hk : k < 8) : ∀ a, (![0, j, 256 * k] : Fin 3 → ℕ) a + S1x1x256.size a ≤ S1x2x2048.size a := by
  intro a; fin_cases a
  · show 0 + 1 ≤ 1; omega
  · show j + 1 ≤ 2; omega
  · show 256 * k + 256 ≤ 2048; omega

theorem off2_eq (v : BitVec 32) (h : v.toInt ≤ 2048) (t : Fin (k0_t1_loop v).trips) : k0_off2 v t = ![0, 0, 256 * t.val, 0] := by
  show (![0, 0, (Scalar.muli (Scf.iv 0#32 1#32 t) 256#32).toNat, 0] : Fin 4 → ℕ) = _
  rw [toNat_pos _ (t1_lt v h t)]

theorem off3_eq (v : BitVec 32) (h : v.toInt ≤ 2048) (t : Fin (k0_t1_loop v).trips) : k0_off3 v t = ![0, 0, 256 * t.val] := by
  show (![0, 0, (Scalar.muli (Scf.iv 0#32 1#32 t) 256#32).toNat] : Fin 3 → ℕ) = _
  rw [toNat_pos _ (t1_lt v h t)]

theorem off6_eq (v : BitVec 32) (h : v.toInt ≤ 2048) (t : Fin (k0_t3_loop v).trips) : k0_off6 v t = ![0, 0, 256 * t.val, 0] := by
  show (![0, 0, (Scalar.muli (Scf.iv 0#32 1#32 t) 256#32).toNat, 0] : Fin 4 → ℕ) = _
  rw [toNat_pos _ (t3_lt v h t)]

theorem off7_eq (v : BitVec 32) (h : v.toInt ≤ 2048) (t : Fin (k0_t3_loop v).trips) : k0_off7 v t = ![0, 0, 256 * t.val] := by
  show (![0, 0, (Scalar.muli (Scf.iv 0#32 1#32 t) 256#32).toNat] : Fin 3 → ℕ) = _
  rw [toNat_pos _ (t3_lt v h t)]

theorem off10_eq (v : BitVec 32) (h : v.toInt ≤ 2048) (t : Fin (k0_t5_loop v).trips) : k0_off10 v t = ![0, 1, 256 * t.val, 0] := by
  show (![0, 1, (Scalar.muli (Scf.iv 0#32 1#32 t) 256#32).toNat, 0] : Fin 4 → ℕ) = _
  rw [toNat_pos _ (t5_lt v h t)]

theorem off11_eq (v : BitVec 32) (h : v.toInt ≤ 2048) (t : Fin (k0_t5_loop v).trips) : k0_off11 v t = ![0, 1, 256 * t.val] := by
  show (![0, 1, (Scalar.muli (Scf.iv 0#32 1#32 t) 256#32).toNat] : Fin 3 → ℕ) = _
  rw [toNat_pos _ (t5_lt v h t)]

theorem off14_eq (v : BitVec 32) (h : v.toInt ≤ 2048) (t : Fin (k0_t7_loop v).trips) : k0_off14 v t = ![0, 1, 256 * t.val, 0] := by
  show (![0, 1, (Scalar.muli (Scf.iv 0#32 1#32 t) 256#32).toNat, 0] : Fin 4 → ℕ) = _
  rw [toNat_pos _ (t7_lt v h t)]

theorem off15_eq (v : BitVec 32) (h : v.toInt ≤ 2048) (t : Fin (k0_t7_loop v).trips) : k0_off15 v t = ![0, 1, 256 * t.val] := by
  show (![0, 1, (Scalar.muli (Scf.iv 0#32 1#32 t) 256#32).toNat] : Fin 3 → ℕ) = _
  rw [toNat_pos _ (t7_lt v h t)]

theorem mult_dvd (k : ℕ) (hk : k < 8) : 256 ∣ (Scalar.muli (Scf.iv 0#32 1#32 k) 256#32).toNat := by
  rw [toNat_pos k hk]; exact Dvd.intro _ rfl

/-- THE SIDE CONDITIONS the body assumes of a length, when it is at most 2048. -/
theorem chk1_of_le (v : BitVec 32) (h : v.toInt ≤ 2048) : k0_chk1 v :=
  ⟨⟨t1_ok v h,
    fun t => mult_dvd _ (t1_lt v h t),
    fun t => by rw [off2_eq v h t]; exact codes_inb 0 _ (by decide) (t1_lt v h t),
    fun t => by rw [off3_eq v h t]; exact scales_inb 0 _ (by decide) (t1_lt v h t),
    t2_ok v h,
    fun t => (t2_none v t).elim,
    fun t => (t2_none v t).elim,
    fun t => (t2_none v t).elim,
    t3_ok v h,
    fun t => mult_dvd _ (t3_lt v h t),
    fun t => by rw [off6_eq v h t]; exact codes_inb 0 _ (by decide) (t3_lt v h t),
    fun t => by rw [off7_eq v h t]; exact scales_inb 0 _ (by decide) (t3_lt v h t),
    fun t => mult_dvd _ (t3_lt v h t),
    t4_ok v h,
    fun t => (t4_none v t).elim,
    fun t => (t4_none v t).elim,
    fun t => (t4_none v t).elim,
    fun t => (t4_none v t).elim,
    t5_ok v h,
    fun t => mult_dvd _ (t5_lt v h t),
    fun t => by rw [off10_eq v h t]; exact codes_inb 1 _ (by decide) (t5_lt v h t),
    fun t => by rw [off11_eq v h t]; exact scales_inb 1 _ (by decide) (t5_lt v h t),
    t6_ok v h,
    fun t => (t6_none v t).elim,
    fun t => (t6_none v t).elim,
    fun t => (t6_none v t).elim,
    t7_ok v h,
    fun t => mult_dvd _ (t7_lt v h t),
    fun t => by rw [off14_eq v h t]; exact codes_inb 1 _ (by decide) (t7_lt v h t),
    fun t => by rw [off15_eq v h t]; exact scales_inb 1 _ (by decide) (t7_lt v h t),
    fun t => mult_dvd _ (t7_lt v h t),
    t8_ok v h⟩,
   ⟨fun t => (t8_none v t).elim, fun t => (t8_none v t).elim, fun t => (t8_none v t).elim, fun t => (t8_none v t).elim⟩⟩

/-- Under the precondition every length is at most 2048. -/
theorem len_of_pre [hP : Cert.Pre_lengths_fit.Facts] (m : (ℓ : Loc nD τ sig) → Buf (Elt Ideal) ℓ) (h : Cert.Pre_KernelIdeal m) (c : Dev nD) (y : S64.Idx) :
    (m ((c : Thread nD τ).loc main_arg7) y).toInt ≤ 2048 := by
  have e := congrFun (h c) (Shape.Idx.first hP.h_S_)
  have e1 := e
  simp only [Cert.Pre_lengths_fit.fn] at e1
  haveI : Subsingleton (Cert.Pre_lengths_fit.S_).Idx := ⟨fun a b => by funext i; exact i.elim0⟩
  have e2 := Host.reduce_andi_all _ _ _ _ _ e1 y
  have e3 := (WordArith.ofBool_eq_one_iff _).1 e2
  have := BitVec.sle_iff_toInt_le.1 e3
  exact this

/-- The precondition gives the side conditions at every grid point. -/
theorem hyps_of_pre [hP : Cert.Pre_lengths_fit.Facts] (m : (ℓ : Loc nD τ sig) → Buf (Elt Ideal) ℓ) (h : Cert.Pre_KernelIdeal m) : Hyps m := by
  intro c t
  have rd : ∀ i, (iblk m c 0 t i).toInt ≤ 2048 := fun i => by
    unfold iblk; rw [View.read_apply, cast_eq]; exact len_of_pre m h c _
  simp only [View.readAt_apply, Memref.IsWhole.read_unread]; exact chk1_of_le _ (rd _)

end Cert.KernelIdeal.Run
-- ==== Proof.KernelIdealInRange.lean ====
/- The side conditions of `KernelIdeal`'s body under `in_range`, whose first conjunct is that every length is at most 2048. -/
module

public import proofs.«01_k».proof.Proof.KernelIdealLengths
public import proofs.«01_k».proof.Proof.Gen.Pre_in_range

@[expose] public section

namespace Cert.KernelIdeal.Run

open Cert.KernelIdeal Cert.KernelIdeal.Gen
open Idealize.ShloMosaic Idealize.ShloMosaic.TcCoe

/-- Under the precondition every length is at most 2048. -/
theorem len_of_in_range [hP : Cert.Pre_in_range.Facts] (m : (ℓ : Loc nD τ sig) → Buf (Elt Ideal) ℓ) (h : Cert.Pre_KernelIdeal_in_range m) (c : Dev nD) (y : S64.Idx) :
    (m ((c : Thread nD τ).loc main_arg7) y).toInt ≤ 2048 := by
  have e := congrFun (h c) (Shape.Idx.first hP.h_S_)
  simp only [Cert.Pre_in_range.fn, Cert.Pre_in_range.fn_part1] at e
  have e1 := (IntOp.andi_eq_one.1 (IntOp.andi_eq_one.1 e).1).1
  haveI : Subsingleton (Cert.Pre_in_range.S_).Idx := ⟨fun a b => by funext i; exact i.elim0⟩
  have e2 := Host.reduce_andi_all _ _ _ _ _ e1 y
  have e3 := (WordArith.ofBool_eq_one_iff _).1 e2
  have := BitVec.sle_iff_toInt_le.1 e3
  exact this

/-- The precondition gives the side conditions at every grid point. -/
theorem hyps_of_in_range [hP : Cert.Pre_in_range.Facts] (m : (ℓ : Loc nD τ sig) → Buf (Elt Ideal) ℓ) (h : Cert.Pre_KernelIdeal_in_range m) : Hyps m := by
  intro c t
  have rd : ∀ i, (iblk m c 0 t i).toInt ≤ 2048 := fun i => by
    unfold iblk; rw [View.read_apply, cast_eq]; exact len_of_in_range m h c _
  simp only [View.readAt_apply, Memref.IsWhole.read_unread]; exact chk1_of_le _ (rd _)

end Cert.KernelIdeal.Run
-- ==== Proof.Quant.lean ====
/-
  The exponent of a row's scale, read two ways: from the place of a number among the powers of two (the kernel), and from its
  logarithm (the reference).
-/
module

public import Idealize.ShloMosaic.PureOps.Ideal
public import Idealize.ShloMosaic.Lib.IdealHost
public import Mathlib.Algebra.Order.Archimedean.Basic
public import Mathlib.Analysis.SpecialFunctions.Log.Basic
public import Mathlib.Analysis.SpecialFunctions.Pow.Real
public import Mathlib.Tactic.Linarith
public import Mathlib.Tactic.NormNum
public import Mathlib.Tactic.Push

@[expose] public section

noncomputable section

namespace Cert.Quant

open Idealize.ShloMosaic Finset

/-- The f32 number with exponent field `k` and nothing else. -/
def pw (k : BitVec 32) : EReal := Ideal.ofBits .f32 (IntOp.shli .vector k 23#32)

/-- The largest magnitude of a row. -/
def amax (v : Fin 128 → EReal) : EReal := Finset.fold max (Ideal.ofBits FTy.f32 4286578688#32) (fun d => max (v d) (-(v d))) Finset.univ

/-- The largest magnitude over 448, the largest fp8 number. -/
def ratio (v : Fin 128 → EReal) : EReal := amax v * Ideal.ofBits FTy.f32 991054117#32

/-- What the precondition says of a row. -/
def Fits (v : Fin 128 → EReal) : Prop :=
  amax v = 0 ∨ (Ideal.ofBits FTy.f32 0x00400000#32 ≤ ratio v ∧ ratio v < Ideal.ofBits FTy.f32 0x7E800000#32)

/-- The exponent field of `y`: how many of the 256 fields start at or below it, less one. -/
def field (y : EReal) : BitVec 32 :=
  IntOp.subi (Finset.fold IntOp.addi (0#32) (fun k : Fin 256 => BitVec.setWidth 32 (BitVec.ofBool (decide (pw (BitVec.ofNat 32 ↑k) ≤ y)))) Finset.univ) 1#32

/-- The kernel's exponent of the scale. -/
def kexp (y : EReal) : BitVec 32 :=
  Scalar.select (IntOp.ori (BitVec.ofBool (decide (y = 0))) (IntOp.cmpi .eq (field y) 255#32)) (0#32) (IntOp.subi (field y) 126#32)

/-- The kernel's scale and its inverse. -/
def kscale (y : EReal) : EReal := pw (IntOp.addi (kexp y) 127#32)
def kinv (y : EReal) : EReal := pw (IntOp.subi 127#32 (kexp y))

/-- The reference's exponent of the scale. -/
def rexp (a : EReal) : EReal :=
  if a = 0 then 0 else
    Ideal.liftRound Int.floor (Ideal.div (Ideal.log (a * Ideal.ofBits FTy.f32 991054117#32)) (Ideal.log (Ideal.ofBits FTy.f32 0x40000000#32))) + 1

/-- The reference's scale and its inverse. -/
def rscale (a : EReal) : EReal := Ideal.pow (Ideal.ofBits FTy.f32 0x40000000#32) (rexp a)
def rinv (a : EReal) : EReal := Ideal.pow (Ideal.ofBits FTy.f32 0x40000000#32) (-(rexp a))

/-- The value of a nonnegative f32 pattern with exponent field `ex` and fraction `fr`. -/
theorem f32_val (b : BitVec 32) (ex fr : ℕ) (h1 : b.extractLsb' 31 1 = 0#1) (h2 : (b.extractLsb' 23 8).toNat = ex)
    (h3 : (b.extractLsb' 0 23).toNat = fr) : Ideal.ofBits .f32 b
      = if ex = 255 then (if fr = 0 then ⊤ else ⊥)
        else if ex = 0 then ((fr * (2 : ℝ) ^ (-149 : ℤ) : ℝ) : EReal)
        else (((2 ^ 23 + fr : ℕ) * (2 : ℝ) ^ ((ex : ℤ) - 150) : ℝ) : EReal) := by
  have e : (ex : ℤ) - 127 - 23 = ex - 150 := by ring
  unfold Ideal.ofBits Ideal.ieee
  simp only [show (8 + 23 : ℕ) = 31 from rfl, h1, h2, h3, show (2 ^ 8 - 1 : ℕ) = 255 from rfl,
    show ((2 : ℤ) ^ (8 - 1) - 1) = 127 from rfl, show ((23 : ℕ) : ℤ) = 23 from rfl, show ((1 : ℤ) - 127 - 23) = -149 from rfl, e,
    show ((0#1 : BitVec 1) == 1#1) = false from rfl, Bool.false_eq_true, if_false, one_mul]

theorem bits_pw : ∀ n : Fin 256, (IntOp.shli .vector (BitVec.ofNat 32 n) 23#32).extractLsb' 31 1 = 0#1
    ∧ ((IntOp.shli .vector (BitVec.ofNat 32 n) 23#32).extractLsb' 23 8).toNat = n
    ∧ ((IntOp.shli .vector (BitVec.ofNat 32 n) 23#32).extractLsb' 0 23).toNat = 0 := by
  decide +kernel

theorem normal_real (n : ℤ) : (((2 ^ 23 + 0 : ℕ) : ℝ) * (2 : ℝ) ^ (n - 150)) = (2 : ℝ) ^ (n - 127) := by
  have : n - 127 = (n - 150) + 23 := by ring
  rw [this, zpow_add₀ (by norm_num), mul_comm]
  congr 1
  norm_num

theorem pw_eq (n : ℕ) (h : n < 256) : pw (BitVec.ofNat 32 n)
    = if n = 255 then ⊤ else if n = 0 then 0 else (((2 : ℝ) ^ ((n : ℤ) - 127) : ℝ) : EReal) := by
  obtain ⟨h1, h2, h3⟩ := bits_pw ⟨n, h⟩
  have e := f32_val _ n 0 h1 h2 h3
  rw [normal_real] at e
  rw [pw, e, if_pos (rfl : (0 : ℕ) = 0), Nat.cast_zero, zero_mul, EReal.coe_zero]

theorem two_f32 : Ideal.ofBits FTy.f32 0x40000000#32 = ((2 : ℝ) : EReal) := by
  have := pw_eq 128 (by norm_num)
  norm_num at this
  exact this

theorem hi_f32 : Ideal.ofBits FTy.f32 0x7E800000#32 = (((2 : ℝ) ^ (126 : ℤ) : ℝ) : EReal) := by
  have := pw_eq 253 (by norm_num)
  rw [if_neg (by norm_num), if_neg (by norm_num)] at this
  exact this

theorem lo_f32 : Ideal.ofBits FTy.f32 0x00400000#32 = (((2 : ℝ) ^ (-127 : ℤ) : ℝ) : EReal) := by
  rw [f32_val _ 0 (2 ^ 22) (by decide) (by decide) (by decide), if_neg (by norm_num), if_pos rfl]
  congr 1
  rw [show (-127 : ℤ) = 22 + -149 by norm_num, zpow_add₀ (by norm_num)]
  congr 1
  norm_num

theorem count_le : ∀ f : Fin 256,
    Finset.fold IntOp.addi (0#32) (fun k : Fin 256 => BitVec.setWidth 32 (BitVec.ofBool (decide (k.val ≤ f.val)))) Finset.univ
      = BitVec.ofNat 32 (f + 1) := by
  decide +kernel

theorem field_eq (y : EReal) (f : ℕ) (hf : f < 255) (h : ∀ k : Fin 256, pw (BitVec.ofNat 32 k) ≤ y ↔ k.val ≤ f) :
    field y = BitVec.ofNat 32 f := by
  unfold field
  simp only [h]
  have := count_le ⟨f, by omega⟩
  simp only at this
  rw [this]
  show BitVec.ofNat 32 (f + 1) - 1#32 = _
  apply BitVec.eq_of_toNat_eq
  simp only [BitVec.toNat_sub, BitVec.toNat_ofNat]
  omega

theorem words : ∀ f : Fin 253,
    Scalar.select (IntOp.ori (BitVec.ofBool false) (IntOp.cmpi .eq (BitVec.ofNat 32 f) 255#32)) (0#32) (IntOp.subi (BitVec.ofNat 32 f) 126#32)
      = BitVec.ofNat 32 f - 126#32
    ∧ IntOp.addi (BitVec.ofNat 32 f - 126#32) 127#32 = BitVec.ofNat 32 (f + 1)
    ∧ IntOp.subi 127#32 (BitVec.ofNat 32 f - 126#32) = BitVec.ofNat 32 (253 - f) := by
  decide +kernel

/-- A number with `2^n ≤ r < 2^(n+1)`, well inside the f32 range: the kernel's scale is `2^(n+1)`. -/
theorem kernel_pow (r : ℝ) (n : ℤ) (h1 : (2 : ℝ) ^ n ≤ r) (h2 : r < (2 : ℝ) ^ (n + 1)) (hn : -127 ≤ n) (hn' : n ≤ 125) :
    kscale (r : EReal) = (((2 : ℝ) ^ (n + 1) : ℝ) : EReal) ∧ kinv (r : EReal) = (((2 : ℝ) ^ (-(n + 1)) : ℝ) : EReal) := by
  obtain ⟨f, hf⟩ : ∃ f : ℕ, (f : ℤ) = n + 127 := ⟨(n + 127).toNat, by omega⟩
  have pos : 0 < r := lt_of_lt_of_le (zpow_pos (by norm_num) _) h1
  have hfield : field (r : EReal) = BitVec.ofNat 32 f := by
    refine field_eq _ f (by omega) fun k => ?_
    rw [pw_eq k k.2]
    by_cases h255 : k.val = 255
    · rw [if_pos h255]
      constructor
      · intro h; exact absurd (top_le_iff.1 h) (EReal.coe_ne_top _)
      · intro h; omega
    rw [if_neg h255]
    by_cases h0 : k.val = 0
    · rw [if_pos h0]
      exact ⟨fun _ => by omega, fun _ => by exact_mod_cast pos.le⟩
    rw [if_neg h0, EReal.coe_le_coe_iff]
    constructor
    · intro h
      have := (zpow_lt_zpow_iff_right₀ (by norm_num : (1 : ℝ) < 2)).1 (lt_of_le_of_lt h h2)
      omega
    · intro h
      exact le_trans (zpow_le_zpow_right₀ (by norm_num) (by omega)) h1
  obtain ⟨w1, w2, w3⟩ := words ⟨f, by omega⟩
  have hk : kexp (r : EReal) = BitVec.ofNat 32 f - 126#32 := by
    unfold kexp
    rw [hfield, decide_eq_false (by exact_mod_cast pos.ne')]
    exact w1
  constructor
  · rw [kscale, hk, w2, pw_eq _ (by simp only; omega), if_neg (by simp only; omega), if_neg (by simp)]
    congr 2; push_cast; omega
  · rw [kinv, hk, w3, pw_eq _ (by simp only; omega), if_neg (by simp only; omega), if_neg (by simp only; omega)]
    congr 2
    have : ((253 - f : ℕ) : ℤ) = 253 - f := by omega
    simp only [this]; omega

theorem log_floor (r : ℝ) (n : ℤ) (h1 : (2 : ℝ) ^ n ≤ r) (h2 : r < (2 : ℝ) ^ (n + 1)) : ⌊Real.log r / Real.log 2⌋ = n := by
  have l2 : 0 < Real.log 2 := Real.log_pos (by norm_num)
  have pos : 0 < r := lt_of_lt_of_le (zpow_pos (by norm_num) _) h1
  rw [Int.floor_eq_iff, le_div_iff₀ l2, div_lt_iff₀ l2]
  constructor
  · rw [← Real.log_zpow]; exact Real.log_le_log (zpow_pos (by norm_num) _) h1
  · have := Real.log_lt_log pos h2
    rw [Real.log_zpow] at this; push_cast at this; exact this

theorem pow_two (n : ℤ) : Ideal.pow ((2 : ℝ) : EReal) (((n : ℝ) : ℝ) : EReal) = (((2 : ℝ) ^ n : ℝ) : EReal) := by
  show ((Real.rpow 2 (n : ℝ) : ℝ) : EReal) = _
  congr 1
  exact Real.rpow_intCast 2 n

theorem amax_zero_kernel : kscale 0 = 1 ∧ kinv 0 = 1 := by
  have hk : kexp 0 = 0#32 := by
    unfold kexp
    rw [decide_eq_true rfl]
    have : ∀ b : BitVec 1, IntOp.ori (BitVec.ofBool true) b = 1#1 := by decide
    rw [this]; rfl
  have : pw (BitVec.ofNat 32 127) = 1 := by rw [pw_eq _ (by norm_num)]; norm_num
  rw [kscale, kinv, hk]
  exact ⟨this, this⟩

/-- On a row that fits, the two scales agree, and so do their inverses. -/
theorem scales_eq (v : Fin 128 → EReal) (h : Fits v) : kscale (ratio v) = rscale (amax v) ∧ kinv (ratio v) = rinv (amax v) := by
  by_cases h0 : amax v = 0
  · have : ratio v = 0 := by rw [ratio, h0, zero_mul]
    rw [this, rscale, rinv, rexp, if_pos h0, two_f32, neg_zero, amax_zero_kernel.1, amax_zero_kernel.2]
    have := pow_two 0
    simp at this
    exact ⟨this.symm, this.symm⟩
  obtain ⟨hlo, hhi⟩ := h.resolve_left h0
  rw [lo_f32] at hlo
  rw [hi_f32] at hhi
  obtain ⟨r, hr⟩ : ∃ r : ℝ, ratio v = (r : EReal) := by
    refine ⟨(ratio v).toReal, (EReal.coe_toReal ?_ ?_).symm⟩
    · exact ne_top_of_lt hhi
    · exact ne_bot_of_gt (lt_of_lt_of_le (EReal.bot_lt_coe _) hlo)
  rw [hr] at hlo hhi ⊢
  rw [EReal.coe_le_coe_iff] at hlo
  rw [EReal.coe_lt_coe_iff] at hhi
  have pos : 0 < r := lt_of_lt_of_le (zpow_pos (by norm_num) _) hlo
  obtain ⟨n, h1, h2⟩ := exists_mem_Ico_zpow pos (by norm_num : (1 : ℝ) < 2)
  have hn : -127 ≤ n := by
    have := (zpow_lt_zpow_iff_right₀ (by norm_num : (1 : ℝ) < 2)).1 (lt_of_le_of_lt hlo h2)
    omega
  have hn' : n ≤ 125 := by
    have := (zpow_lt_zpow_iff_right₀ (by norm_num : (1 : ℝ) < 2)).1 (lt_of_le_of_lt h1 hhi)
    omega
  obtain ⟨k1, k2⟩ := kernel_pow r n h1 h2 hn hn'
  have hexp : rexp (amax v) = (((n + 1 : ℤ) : ℝ) : EReal) := by
    unfold rexp
    rw [if_neg h0]
    have : amax v * Ideal.ofBits FTy.f32 991054117#32 = (r : EReal) := hr
    rw [this, two_f32]
    have l2 : 0 < Real.log 2 := Real.log_pos (by norm_num)
    have e1 : Ideal.log (r : EReal) = (Real.log r : EReal) := by
      show (if r ≤ 0 then (⊥ : EReal) else (Real.log r : EReal)) = _
      rw [if_neg (not_le.2 pos)]
    have e2 : Ideal.log ((2 : ℝ) : EReal) = (Real.log 2 : EReal) := by
      show (if (2 : ℝ) ≤ 0 then (⊥ : EReal) else (Real.log 2 : EReal)) = _
      rw [if_neg (by norm_num)]
    rw [e1, e2, Ideal.div, if_neg (by exact_mod_cast l2.ne'), ← EReal.coe_inv, ← EReal.coe_mul, ← div_eq_mul_inv]
    show (((⌊Real.log r / Real.log 2⌋ : ℤ) : ℝ) : EReal) + 1 = _
    rw [log_floor r n h1 h2]
    push_cast; rfl
  rw [k1, k2, rscale, rinv, hexp, two_f32, pow_two]
  refine ⟨rfl, ?_⟩
  rw [← EReal.coe_neg, show -(((n + 1 : ℤ) : ℝ)) = ((-(n + 1) : ℤ) : ℝ) by push_cast; ring, pow_two]

end Cert.Quant
-- ==== Proof.KernelIdealQuant.lean ====
/-
  The kernel's quantiser, entry by entry: the scale and the codes of a row of new keys or values, in the four copies of the
  code (keys and values, head 0 and head 1).
-/
module

public import proofs.«01_k».proof.Proof.Gen.KernelIdeal.Skeleton
public import proofs.«01_k».proof.Proof.Quant
public import Idealize.ShloMosaic.Lib.Pointwise

@[expose] public section

set_option maxRecDepth 16384
set_option maxHeartbeats 1000000

noncomputable section

namespace Cert.KernelIdeal.Pay

open Cert.KernelIdeal Cert.KernelIdeal.Gen Cert.Quant
open Idealize.ShloMosaic Idealize.ShloMosaic.TcCoe Idealize.ShloMosaic.Tactic

/-- The code of one entry of a row. -/
def kcode (v : Fin 128 → EReal) (d : Fin 128) : EReal :=
  min (Ideal.ofBits FTy.f32 1138753536#32) (max (Ideal.ofBits FTy.f32 3286237184#32) (v d * kinv (ratio v)))

/-- The row of token `s` of head `h` of a block of new keys or values. -/
abbrev row (h : Fin 2) (x : FVec Ideal S1x32x2x128 .bf16) (s : Fin 32) : Fin 128 → EReal := fun d => x (ix4 0 s h d)

variable (x : FVec Ideal S1x32x2x128 .bf16) (s : Fin 32) (d : Fin 128)

/-! ## Head 0, keys -/

theorem pay12_at : k0_pay12 (F := Ideal) x (ix2 s d) = row 0 x s d := by pointwise [k0_pay12]

theorem pay13_at : k0_pay13 (F := Ideal) x (ix2 s 0) = ratio (row 0 x s) := by
  pointwise [k0_pay13]
  simp only [pay12_at]; rfl

theorem pay14_at : k0_pay14 (F := Ideal) x (ix2 s 0) = field (ratio (row 0 x s)) := by
  pointwise [k0_pay14]
  simp only [pay13_at]; rfl

theorem pay15_at : k0_pay15 (F := Ideal) x (ix2 s 0) = BitVec.ofBool (decide (ratio (row 0 x s) = 0)) := by
  pointwise [k0_pay15]
  simp only [pay13_at]

theorem pay17_at : k0_pay17 (k0_pay14 (F := Ideal) x) (k0_pay15 (F := Ideal) x) k0_pay16 (ix2 s 0) = kexp (ratio (row 0 x s)) := by
  pointwise [k0_pay17, k0_pay16]
  simp only [pay14_at, pay15_at]; rfl

theorem pay18_at : k0_pay18 (F := Ideal) (k0_pay14 (F := Ideal) x) (k0_pay15 (F := Ideal) x) k0_pay16 (ix2 s 0) = kscale (ratio (row 0 x s)) := by
  pointwise [k0_pay18]
  simp only [pay17_at]; rfl

theorem pay19_at : k0_pay19 (F := Ideal) (k0_pay12 x) (k0_pay14 (F := Ideal) x) (k0_pay15 (F := Ideal) x) k0_pay16 (ix2 s d) = kcode (row 0 x s) d := by
  pointwise [k0_pay19]
  simp only [pay17_at, pay12_at]; rfl

/-! ## Head 0, values -/

theorem pay20_at : k0_pay20 (F := Ideal) (k0_pay10 x) (ix2 s d) = row 0 x s d := by pointwise [k0_pay20, k0_pay10]

theorem pay21_at : k0_pay21 (F := Ideal) (k0_pay10 x) (ix2 s 0) = ratio (row 0 x s) := by
  pointwise [k0_pay21]
  simp only [pay20_at]; rfl

theorem pay22_at : k0_pay22 (F := Ideal) (k0_pay10 x) (ix2 s 0) = field (ratio (row 0 x s)) := by
  pointwise [k0_pay22]
  simp only [pay21_at]; rfl

theorem pay23_at : k0_pay23 (F := Ideal) (k0_pay10 x) (ix2 s 0) = BitVec.ofBool (decide (ratio (row 0 x s) = 0)) := by
  pointwise [k0_pay23]
  simp only [pay21_at]

theorem pay24_at : k0_pay24 (k0_pay22 (F := Ideal) (k0_pay10 x)) (k0_pay23 (F := Ideal) (k0_pay10 x)) 255#32 (ix2 s 0) = kexp (ratio (row 0 x s)) := by
  pointwise [k0_pay24]
  simp only [pay22_at, pay23_at]; rfl

theorem pay25_at : k0_pay25 (F := Ideal) (k0_pay22 (F := Ideal) (k0_pay10 x)) (k0_pay23 (F := Ideal) (k0_pay10 x)) 255#32 (ix2 s 0) = kscale (ratio (row 0 x s)) := by
  pointwise [k0_pay25]
  simp only [pay24_at]; rfl

theorem pay26_at : k0_pay26 (F := Ideal) (k0_pay20 (k0_pay10 x)) (k0_pay22 (F := Ideal) (k0_pay10 x)) (k0_pay23 (F := Ideal) (k0_pay10 x)) 255#32 (ix2 s d) = kcode (row 0 x s) d := by
  pointwise [k0_pay26]
  simp only [pay24_at, pay20_at]; rfl

/-! ## Head 1, keys -/

theorem pay46_at : k0_pay46 (F := Ideal) (k0_pay9 x) (ix2 s d) = row 1 x s d := by pointwise [k0_pay46, k0_pay9]

theorem pay47_at : k0_pay47 (F := Ideal) (k0_pay9 x) (ix2 s 0) = kexp (ratio (row 1 x s)) := by
  pointwise [k0_pay47]
  simp only [pay46_at]; rfl

theorem pay48_at : k0_pay48 (F := Ideal) (k0_pay47 (F := Ideal) (k0_pay9 x)) (ix2 s 0) = kscale (ratio (row 1 x s)) := by
  pointwise [k0_pay48]
  simp only [pay47_at]; rfl

theorem pay49_at : k0_pay49 (F := Ideal) (k0_pay46 (k0_pay9 x)) (k0_pay47 (F := Ideal) (k0_pay9 x)) (ix2 s d) = kcode (row 1 x s) d := by
  pointwise [k0_pay49]
  simp only [pay47_at, pay46_at]; rfl

/-! ## Head 1, values -/

theorem pay50_at : k0_pay50 (F := Ideal) (k0_pay11 x) (ix2 s d) = row 1 x s d := by pointwise [k0_pay50, k0_pay11]

theorem pay51_at : k0_pay51 (F := Ideal) (k0_pay11 x) (ix2 s 0) = ratio (row 1 x s) := by
  pointwise [k0_pay51]
  simp only [pay50_at]; rfl

theorem pay52_at : k0_pay52 (F := Ideal) (k0_pay11 x) (ix2 s 0) = field (ratio (row 1 x s)) := by
  pointwise [k0_pay52]
  simp only [pay51_at]; rfl

theorem pay56_at : k0_pay56 (k0_pay53 (F := Ideal) (k0_pay11 x)) (k0_pay54 (F := Ideal) (k0_pay11 x)) k0_pay55 (ix2 s 0) = kexp (ratio (row 1 x s)) := by
  pointwise [k0_pay56, k0_pay53, k0_pay54, k0_pay55]
  simp only [pay51_at, pay52_at]; rfl

theorem pay57_at : k0_pay57 (F := Ideal) (k0_pay53 (F := Ideal) (k0_pay11 x)) (k0_pay54 (F := Ideal) (k0_pay11 x)) k0_pay55 (ix2 s 0) = kscale (ratio (row 1 x s)) := by
  pointwise [k0_pay57]
  simp only [pay56_at]; rfl

theorem pay58_at : k0_pay58 (F := Ideal) (k0_pay50 (k0_pay11 x)) (k0_pay53 (F := Ideal) (k0_pay11 x)) (k0_pay54 (F := Ideal) (k0_pay11 x)) k0_pay55 (ix2 s d) = kcode (row 1 x s) d := by
  pointwise [k0_pay58]
  simp only [pay56_at, pay50_at]; rfl

/-! ## The stores -/

theorem pay27_at (v : FVec Ideal S32x128 .fp8e4m3) : k0_pay27 v (ix4 0 0 s d) = v (ix2 s d) := by pointwise [k0_pay27]
theorem pay28_at : k0_pay28 (F := Ideal) (k0_pay20 (k0_pay10 x)) (k0_pay22 (F := Ideal) (k0_pay10 x)) (k0_pay23 (F := Ideal) (k0_pay10 x)) 255#32 (ix4 0 0 s d) = kcode (row 0 x s) d := by
  pointwise [k0_pay28]
  exact pay26_at x s d
theorem pay29_at (v : FVec Ideal S32x1 .f32) : k0_pay29 v (ix4 0 0 s 0) = v (ix2 s 0) := by pointwise [k0_pay29]
theorem pay30_at (v : FVec Ideal S32x1 .f32) : k0_pay30 v (ix4 0 0 s 0) = v (ix2 s 0) := by pointwise [k0_pay30]
theorem pay59_at (v : FVec Ideal S32x128 .fp8e4m3) : k0_pay59 v (ix4 0 0 s d) = v (ix2 s d) := by pointwise [k0_pay59]
theorem pay60_at : k0_pay60 (F := Ideal) (k0_pay50 (k0_pay11 x)) (k0_pay53 (F := Ideal) (k0_pay11 x)) (k0_pay54 (F := Ideal) (k0_pay11 x)) k0_pay55 (ix4 0 0 s d) = kcode (row 1 x s) d := by
  pointwise [k0_pay60]
  exact pay58_at x s d
theorem pay61_at (v : FVec Ideal S32x1 .f32) : k0_pay61 v (ix4 0 0 s 0) = v (ix2 s 0) := by pointwise [k0_pay61]
theorem pay62_at : k0_pay62 (F := Ideal) (k0_pay53 (F := Ideal) (k0_pay11 x)) (k0_pay54 (F := Ideal) (k0_pay11 x)) k0_pay55 (ix4 0 0 s 0) = kscale (ratio (row 1 x s)) := by
  pointwise [k0_pay62]
  exact pay57_at x s

end Cert.KernelIdeal.Pay
-- ==== Proof.Softmax.lean ====
/-
  The attention of one query row over the extended reals: the running maximum and the running sum of exponentials that a
  kernel keeps over chunks of 256 keys, against the softmax taken in one go.
-/
module

public import Idealize.ShloMosaic.PureOps.Ideal
public import Mathlib.Algebra.BigOperators.Fin
public import Mathlib.Tactic.Linarith
public import Mathlib.Tactic.Push

@[expose] public section

noncomputable section

namespace Cert.Softmax

open Idealize.ShloMosaic Finset

theorem exp_nonneg (x : EReal) : 0 ≤ Ideal.exp x := by
  induction x with
  | bot => exact le_refl _
  | top => exact le_top
  | coe r => exact EReal.coe_nonneg.2 (Real.exp_pos r).le

theorem bot_sub (x : EReal) : (⊥ : EReal) - x = ⊥ := by
  rw [sub_eq_add_neg, EReal.bot_add]

theorem exp_bot_sub (x : EReal) : Ideal.exp (⊥ - x) = 0 := by
  rw [bot_sub]; rfl

/-- Moving the reference point of an exponential up, from `m` to `n`. -/
theorem exp_rebase (x m n : EReal) (h : x ≤ m) (h' : m ≤ n) :
    Ideal.exp (x - m) * Ideal.exp (m - n) = Ideal.exp (x - n) := by
  have top (y : EReal) : Ideal.exp (y - ⊤) = 0 := by
    rw [sub_eq_add_neg, EReal.neg_top, EReal.add_bot]; rfl
  induction n with
  | top => rw [top, top, mul_zero]
  | bot =>
    obtain rfl := le_bot_iff.1 h'
    obtain rfl := le_bot_iff.1 h
    simp only [exp_bot_sub, mul_zero]
  | coe n =>
    induction m with
    | top => exact absurd h' (by simp)
    | bot =>
      obtain rfl := le_bot_iff.1 h
      simp only [exp_bot_sub, mul_zero]
    | coe m =>
      induction x with
      | top => exact absurd h (by simp)
      | bot => simp only [exp_bot_sub, zero_mul]
      | coe x =>
        rw [← EReal.coe_sub, ← EReal.coe_sub, ← EReal.coe_sub]
        show ((Real.exp (x - m) : ℝ) : EReal) * ((Real.exp (m - n) : ℝ) : EReal) = ((Real.exp (x - n) : ℝ) : EReal)
        rw [← EReal.coe_mul, ← Real.exp_add]
        congr 2; ring_nf

theorem sum_mul_of_nonneg {ι : Type} (s : Finset ι) (f : ι → EReal) (c : EReal) (h : ∀ i, 0 ≤ f i) :
    (∑ i ∈ s, f i) * c = ∑ i ∈ s, f i * c := by
  classical
  induction s using Finset.induction_on with
  | empty => simp
  | insert a s ha ih =>
    rw [sum_insert ha, sum_insert ha, EReal.right_distrib_of_nonneg (h a) (sum_nonneg fun i _ => h i), ih]

/-- A sum of exponentials, its reference point moved up. -/
theorem sum_rebase {ι : Type} (s : Finset ι) (f : ι → EReal) (m n : EReal) (h : ∀ i ∈ s, f i ≤ m) (h' : m ≤ n) :
    (∑ i ∈ s, Ideal.exp (f i - m)) * Ideal.exp (m - n) = ∑ i ∈ s, Ideal.exp (f i - n) := by
  rw [sum_mul_of_nonneg _ _ _ fun i => exp_nonneg _]
  exact sum_congr rfl fun i hi => exp_rebase _ _ _ (h i hi) h'

theorem sup_range_add (s : ℕ → EReal) (a b : ℕ) :
    (range (a + b)).sup s = (range a).sup s ⊔ (univ : Finset (Fin b)).sup fun i => s (a + i) := by
  apply le_antisymm
  · refine Finset.sup_le fun t ht => ?_
    rcases lt_or_ge t a with hlt | hge
    · exact le_sup_of_le_left (Finset.le_sup (f := s) (mem_range.2 hlt))
    · have hb : t - a < b := by have := mem_range.1 ht; omega
      refine le_sup_of_le_right ?_
      have := Finset.le_sup (f := fun i : Fin b => s (a + i)) (mem_univ (⟨t - a, hb⟩ : Fin b))
      simpa [Nat.add_sub_cancel' hge] using this
  · refine sup_le (Finset.sup_le fun t ht => ?_) (Finset.sup_le fun i _ => ?_)
    · exact Finset.le_sup (f := s) (mem_range.2 (lt_of_lt_of_le (mem_range.1 ht) (Nat.le_add_right _ _)))
    · exact Finset.le_sup (f := s) (mem_range.2 (Nat.add_lt_add_left i.2 a))

theorem sum_range_add' (f : ℕ → EReal) (a b : ℕ) :
    ∑ t ∈ range (a + b), f t = ∑ t ∈ range a, f t + ∑ i : Fin b, f (a + i) := by
  rw [sum_range_add, Finset.sum_range (fun x => f (a + x))]

theorem sup_range_fin (s : ℕ → EReal) (n : ℕ) : (range n).sup s = (univ : Finset (Fin n)).sup fun t => s t := by
  simpa using sup_range_add s 0 n

/-- The maximum of the scores of the new tokens and of the first `n` of the cache. -/
def top (sn : Fin 32 → EReal) (s : ℕ → EReal) (n : ℕ) : EReal := (univ.sup sn) ⊔ (range n).sup s

theorem le_top_new (sn : Fin 32 → EReal) (s : ℕ → EReal) (n : ℕ) (j : Fin 32) : sn j ≤ top sn s n :=
  le_sup_of_le_left (Finset.le_sup (f := sn) (mem_univ j))

theorem le_top_cache (sn : Fin 32 → EReal) (s : ℕ → EReal) (n t : ℕ) (h : t ∈ range n) : s t ≤ top sn s n :=
  le_sup_of_le_right (Finset.le_sup (f := s) h)

theorem top_add (sn : Fin 32 → EReal) (s : ℕ → EReal) (a b : ℕ) :
    top sn s (a + b) = top sn s a ⊔ (univ : Finset (Fin b)).sup fun i => s (a + i) := by
  rw [top, top, sup_range_add, sup_assoc]

/-- The sum of the exponentials of the scores of the new tokens and of the first `n` of the cache, all from `m`. -/
def total (sn : Fin 32 → EReal) (s : ℕ → EReal) (n : ℕ) (m : EReal) : EReal :=
  ∑ j, Ideal.exp (sn j - m) + ∑ t ∈ range n, Ideal.exp (s t - m)

theorem total_nonneg (sn : Fin 32 → EReal) (s : ℕ → EReal) (n : ℕ) (m : EReal) : 0 ≤ total sn s n m :=
  add_nonneg (sum_nonneg fun _ _ => exp_nonneg _) (sum_nonneg fun _ _ => exp_nonneg _)

theorem total_rebase (sn : Fin 32 → EReal) (s : ℕ → EReal) (n : ℕ) (m m' : EReal) (h : top sn s n ≤ m) (h' : m ≤ m') :
    total sn s n m * Ideal.exp (m - m') = total sn s n m' := by
  rw [total, total, EReal.right_distrib_of_nonneg (sum_nonneg fun _ _ => exp_nonneg _) (sum_nonneg fun _ _ => exp_nonneg _),
    sum_rebase _ _ _ _ (fun j _ => (le_top_new sn s n j).trans h) h',
    sum_rebase _ _ _ _ (fun t ht => (le_top_cache sn s n t ht).trans h) h']

/-- The running maximum and sum after `k` chunks are the maximum and the sum of all that was seen. -/
theorem running (sn : Fin 32 → EReal) (s : ℕ → EReal) (N : ℕ) (M L : ℕ → EReal)
    (hM0 : M 0 = univ.sup sn) (hL0 : L 0 = ∑ j, Ideal.exp (sn j - M 0))
    (hM : ∀ k < N, M (k + 1) = max (M k) ((univ : Finset (Fin 256)).sup fun i => s (256 * k + i)))
    (hL : ∀ k < N, L (k + 1) = L k * Ideal.exp (M k - M (k + 1)) + ∑ i : Fin 256, Ideal.exp (s (256 * k + i) - M (k + 1)))
    (k : ℕ) (hk : k ≤ N) : M k = top sn s (256 * k) ∧ L k = total sn s (256 * k) (M k) := by
  induction k with
  | zero => exact ⟨by simp [hM0, top], by simp [hL0, total]⟩
  | succ k ih =>
    obtain ⟨hm, hl⟩ := ih (by omega)
    have hm' : M (k + 1) = top sn s (256 * (k + 1)) := by
      rw [hM k (by omega), hm, mul_add, mul_one, top_add]
    refine ⟨hm', ?_⟩
    have hle : M k ≤ M (k + 1) := by rw [hM k (by omega)]; exact le_max_left _ _
    rw [hL k (by omega), hl, total_rebase _ _ _ _ _ hm.symm.le hle, total, total, mul_add, mul_one,
      sum_range_add' (fun t => Ideal.exp (s t - M (k + 1))), add_assoc]

/-- The softmax weight as the kernel takes it: the exponential times the sum's inverse. -/
def weight (m l x : EReal) : EReal := Ideal.exp (x - m) * Ideal.div 1 l

/-- The softmax weight as the mathematics states it, zero where the sum is. -/
def share (m l x : EReal) : EReal := if l = 0 then 0 else Ideal.div (Ideal.exp (x - m)) l

theorem weight_bot (m l : EReal) : weight m l ⊥ = 0 := by
  rw [weight, exp_bot_sub, zero_mul]

theorem weight_eq_share (m l x : EReal) (h : l = 0 → Ideal.exp (x - m) = 0) : weight m l x = share m l x := by
  unfold weight share
  split_ifs with h0
  · rw [h h0, zero_mul]
  · unfold Ideal.div; rw [if_neg h0, if_neg h0, one_mul]

theorem exp_eq_zero_of_sum {ι : Type} (s : Finset ι) (f : ι → EReal) (hf : ∀ i, 0 ≤ f i) (h : ∑ i ∈ s, f i = 0) (i : ι) (hi : i ∈ s) :
    f i = 0 :=
  (sum_eq_zero_iff_of_nonneg fun i _ => hf i).1 h i hi

/-- The value of one output entry as the mathematics states it: scores of the cache `s` and of the new tokens `sn`, values
    `v` and `vn`. -/
def attend (s v : Fin 2048 → EReal) (sn vn : Fin 32 → EReal) : EReal :=
  let m := max (univ.sup s) (univ.sup sn)
  let l := ∑ t, Ideal.exp (s t - m) + ∑ j, Ideal.exp (sn j - m)
  ∑ t, share m l (s t) * v t + ∑ j, share m l (sn j) * vn j

/-- The chunked computation, over `N` chunks with everything past them masked, gives the attention. -/
theorem chunked (sn vn : Fin 32 → EReal) (s v : ℕ → EReal) (N : ℕ) (hN : N ≤ 8) (hs : ∀ t, 256 * N ≤ t → s t = ⊥) (M L A : ℕ → EReal)
    (hM0 : M 0 = univ.sup sn) (hL0 : L 0 = ∑ j, Ideal.exp (sn j - M 0))
    (hM : ∀ k < N, M (k + 1) = max (M k) ((univ : Finset (Fin 256)).sup fun i => s (256 * k + i)))
    (hL : ∀ k < N, L (k + 1) = L k * Ideal.exp (M k - M (k + 1)) + ∑ i : Fin 256, Ideal.exp (s (256 * k + i) - M (k + 1)))
    (hA0 : A 0 = ∑ j, vn j * weight (M N) (L N) (sn j))
    (hA : ∀ k < N, A (k + 1) = A k + ∑ i : Fin 256, v (256 * k + i) * weight (M N) (L N) (s (256 * k + i))) :
    A N = attend (fun t => s t) (fun t => v t) sn vn := by
  obtain ⟨hm, hl⟩ := running sn s N M L hM0 hL0 hM hL N le_rfl
  have hacc : ∀ k ≤ N, A k = ∑ j, vn j * weight (M N) (L N) (sn j) + ∑ t ∈ range (256 * k), v t * weight (M N) (L N) (s t) := by
    intro k hk
    induction k with
    | zero => simp [hA0]
    | succ k ih =>
      rw [hA k (by omega), ih (by omega), mul_add, mul_one, sum_range_add' (fun t => v t * weight (M N) (L N) (s t)), add_assoc]
  obtain ⟨r, hr⟩ : ∃ r, 2048 = 256 * N + r := ⟨2048 - 256 * N, by omega⟩
  have rest (f : ℕ → EReal) (hf : ∀ t, s t = ⊥ → f t = 0) : ∑ t ∈ range (256 * N), f t = ∑ t : Fin 2048, f t := by
    rw [← Finset.sum_range, hr, sum_range_add', Finset.sum_eq_zero (s := univ), add_zero]
    exact fun i _ => hf _ (hs _ (Nat.le_add_right _ _))
  have hmm : M N = max (univ.sup fun t : Fin 2048 => s t) (univ.sup sn) := by
    rw [hm, top, ← sup_range_fin, hr, sup_range_add, max_comm]
    congr 1
    refine (sup_eq_left.2 (Finset.sup_le fun i _ => ?_)).symm
    rw [hs _ (Nat.le_add_right _ _)]; exact bot_le
  have hll : L N = ∑ t : Fin 2048, Ideal.exp (s t - M N) + ∑ j, Ideal.exp (sn j - M N) := by
    rw [hl, total, add_comm, rest (fun t => Ideal.exp (s t - M N)) fun t ht => by rw [ht, exp_bot_sub]]
  have hzero (h : L N = 0) : (∑ t : Fin 2048, Ideal.exp (s t - M N) = 0) ∧ ∑ j, Ideal.exp (sn j - M N) = 0 :=
    (add_eq_zero_iff_of_nonneg (sum_nonneg fun _ _ => exp_nonneg _) (sum_nonneg fun _ _ => exp_nonneg _)).1 (hll ▸ h)
  rw [hacc N le_rfl, rest (fun t => v t * weight (M N) (L N) (s t)) fun t ht => by rw [ht, weight_bot, mul_zero], add_comm]
  show _ = ∑ t : Fin 2048, _ + ∑ j, _
  rw [← hmm, ← hll]
  congr 1
  · refine sum_congr rfl fun t _ => ?_
    rw [mul_comm, weight_eq_share _ _ _ fun h => exp_eq_zero_of_sum univ _ (fun _ => exp_nonneg _) (hzero h).1 t (mem_univ t)]
  · refine sum_congr rfl fun j _ => ?_
    rw [mul_comm, weight_eq_share _ _ _ fun h => exp_eq_zero_of_sum univ _ (fun _ => exp_nonneg _) (hzero h).2 j (mem_univ j)]

end Cert.Softmax
-- ==== Proof.KernelIdealScores.lean ====
/-
  The kernel's attention, entry by entry: the scores of the new tokens and of a chunk of the cache, one step of the running
  maximum and sum, the weighted values, and the store of a head's rows. Head 1 repeats the code of head 0.
-/
module

public import proofs.«01_k».proof.Proof.KernelIdealQuant
public import proofs.«01_k».proof.Proof.Chunks
public import proofs.«01_k».proof.Proof.Softmax

@[expose] public section

set_option maxRecDepth 16384
set_option maxHeartbeats 1000000

noncomputable section

namespace Cert.KernelIdeal.Pay

open Cert.KernelIdeal Cert.KernelIdeal.Gen Cert.Quant Cert.Softmax
open Idealize.ShloMosaic Idealize.ShloMosaic.TcCoe Idealize.ShloMosaic.Tactic

/-- The row of query `g` of the group of a head at token `s`. -/
def qrow (s : Fin 32) (g : Fin 16) : Fin 512 := ⟨s.val * 16 + g.val, by omega⟩

/-- The factor of the scores, `1/√128` at f32. -/
abbrev sm : EReal := Ideal.ofBits FTy.f32 0x3DB504F3#32

/-- The masked score of the position `pos` of the cache: minus infinity past the valid length `n`. -/
def score (n pos : BitVec 32) (K Q : Fin 128 → EReal) : EReal :=
  Scalar.select (IntOp.cmpi CmpIPredicate.slt pos n) ((∑ d, K d * Q d) * sm) ⊥

theorem ninf : Ideal.ofBits FTy.f32 4286578688#32 = ⊥ := by simp [Ideal.ofBits, Ideal.ieee]

/-- The position of entry `i` of chunk `t`, as the kernel computes it. -/
def pos (t : ℕ) (i : Fin 256) : BitVec 32 := IntOp.addi (Scalar.muli (Scf.iv 0#32 1#32 t) 256#32) (BitVec.ofNat 32 i)

theorem pos_eq (t : ℕ) (ht : t < 8) (i : Fin 256) : pos t i = BitVec.ofNat 32 (256 * t + i) := by
  have h := Chunks.toNat_pos t ht
  apply BitVec.eq_of_toNat_eq
  unfold pos IntOp.addi
  rw [BitVec.toNat_add, h, BitVec.toNat_ofNat, BitVec.toNat_ofNat]
  omega

section
variable (q : Vec Ideal S1x32x16x128 .bf16) (s : Fin 32) (g : Fin 16) (d : Fin 128) (j : Fin 32) (i : Fin 256) (r : Fin 512)

theorem pay8_at (b : Vec Ideal S32x512 .f32) : k0_pay8 (F := Ideal) b (ix2 j r) = b (ix2 j r) := by pointwise [k0_pay8]

theorem pay31_at : k0_pay31 (F := Ideal) q (ix2 (qrow s g) d) = q (ix4 0 s g d) := by pointwise [k0_pay31, qrow]

theorem pay45_at (a : FVec Ideal S128x512 .f32) : k0_pay45 (F := Ideal) a (ix4 0 s g d) = a (ix2 d (qrow s g)) := by
  pointwise [k0_pay45]
  rfl

theorem pay32_at (b : FVec Ideal S32x512 .f32) (x : FVec Ideal S32x1 .f32) (k : FVec Ideal S32x128 .fp8e4m3) :
    k0_pay32 (F := Ideal) b x k q (ix2 j r) = (∑ d, k (ix2 j d) * x (ix2 j 0) * k0_pay31 (F := Ideal) q (ix2 r d)) * sm + b (ix2 j r) := by
  pointwise [k0_pay32]

theorem pay35_at (n : BitVec 32) (t : Fin (k0_t1_loop n).trips) (k : Vec Ideal S1x1x256x128 .fp8e4m3) (x : Vec Ideal S1x1x256 .f32) :
    k0_pay35 (F := Ideal) n q t k x (ix2 i r)
      = score n (pos t i) (fun d => k (ix4 0 0 i d) * x (ix3 0 0 i)) (fun d => k0_pay31 (F := Ideal) q (ix2 r d)) := by
  pointwise [k0_pay35]
  rw [ninf]; rfl

theorem pay33_at (b : FVec Ideal S32x512 .f32) (x : FVec Ideal S32x1 .f32) (k : FVec Ideal S32x128 .fp8e4m3) :
    k0_pay33 (F := Ideal) b x k q (ix2 0 r) = Finset.univ.sup fun j => k0_pay32 (F := Ideal) b x k q (ix2 j r) := by
  pointwise [k0_pay33]
  rw [ninf]; rfl

theorem pay34_at (b : FVec Ideal S32x512 .f32) (x : FVec Ideal S32x1 .f32) (k : FVec Ideal S32x128 .fp8e4m3) :
    k0_pay34 (F := Ideal) b x k q (ix2 0 r) = ∑ j, Ideal.exp (k0_pay32 (F := Ideal) b x k q (ix2 j r) - k0_pay33 (F := Ideal) b x k q (ix2 0 r)) := by
  pointwise [k0_pay34]

theorem pay36_at (n : BitVec 32) (t : Fin (k0_t1_loop n).trips) (M : FVec Ideal S1x512 .f32) (k : Vec Ideal S1x1x256x128 .fp8e4m3) (x : Vec Ideal S1x1x256 .f32) :
    k0_pay36 (F := Ideal) n q t M k x (ix2 0 r) = max (M (ix2 0 r)) (Finset.univ.sup fun i => k0_pay35 (F := Ideal) n q t k x (ix2 i r)) := by
  pointwise [k0_pay36]
  rw [ninf]; rfl

theorem pay37_at (n : BitVec 32) (t : Fin (k0_t1_loop n).trips) (M L : FVec Ideal S1x512 .f32) (k : Vec Ideal S1x1x256x128 .fp8e4m3) (x : Vec Ideal S1x1x256 .f32) :
    k0_pay37 (F := Ideal) n q t M L k x (ix2 0 r)
      = L (ix2 0 r) * Ideal.exp (M (ix2 0 r) - k0_pay36 (F := Ideal) n q t M k x (ix2 0 r))
        + ∑ i, Ideal.exp (k0_pay35 (F := Ideal) n q t k x (ix2 i r) - k0_pay36 (F := Ideal) n q t M k x (ix2 0 r)) := by
  pointwise [k0_pay37]

theorem pay41_at (L : FVec Ideal S1x512 .f32) : k0_pay41 (F := Ideal) L (ix2 0 r) = Ideal.div 1 (L (ix2 0 r)) := by pointwise [k0_pay41]

theorem pay42_at (b : FVec Ideal S32x512 .f32) (x y : FVec Ideal S32x1 .f32) (k v : FVec Ideal S32x128 .fp8e4m3) (M L : FVec Ideal S1x512 .f32) :
    k0_pay42 (F := Ideal) b x k y v q M L (ix2 d r)
      = ∑ j, v (ix2 j d) * y (ix2 j 0) * weight (M (ix2 0 r)) (L (ix2 0 r)) (k0_pay32 (F := Ideal) b x k q (ix2 j r)) := by
  pointwise [k0_pay42, k0_pay41]
  rfl

theorem pay4_at (n : BitVec 32) (Q : FVec Ideal S512x128 .bf16) (M L : FVec Ideal S1x512 .f32) (t : Fin (k0_t3_loop n).trips)
    (v k : Vec Ideal S1x1x256x128 .fp8e4m3) (y x : Vec Ideal S1x1x256 .f32) :
    k0_pay4 (F := Ideal) n Q M (k0_pay41 L) 0#32 1#32 t v y k x (ix2 d r)
      = ∑ i, v (ix4 0 0 i d) * y (ix3 0 0 i) * weight (M (ix2 0 r)) (L (ix2 0 r))
          (score n (pos t i) (fun d => k (ix4 0 0 i d) * x (ix3 0 0 i)) (fun d => Q (ix2 r d))) := by
  pointwise [k0_pay4]
  rw [ninf, pay41_at]; rfl

theorem pay43_at (a b : FVec Ideal S128x512 .f32) : k0_pay43 (F := Ideal) a b (ix2 d r) = a (ix2 d r) + b (ix2 d r) := by
  pointwise [k0_pay43]

/-! ## Head 1 repeats head 0 -/

theorem pay3_eq : @k0_pay3 Ideal _ = k0_pay45 := rfl
theorem pay63_eq : @k0_pay63 Ideal = @k0_pay31 Ideal := rfl
theorem pay64_eq : @k0_pay64 Ideal _ = k0_pay32 := rfl
theorem pay65_eq : @k0_pay65 Ideal _ = k0_pay33 := rfl
theorem pay66_eq : @k0_pay66 Ideal _ = k0_pay34 := rfl
theorem pay68_eq : @k0_pay68 Ideal _ = k0_pay36 := rfl
theorem pay69_eq : @k0_pay69 Ideal _ = k0_pay37 := rfl
theorem pay73_eq : @k0_pay73 Ideal _ = k0_pay41 := rfl
theorem pay74_eq : @k0_pay74 Ideal _ = k0_pay42 := rfl
theorem pay6_eq : @k0_pay6 Ideal _ = k0_pay4 := rfl
theorem pay1_eq : @k0_pay1 Ideal _ = k0_pay43 := rfl

end
end Cert.KernelIdeal.Pay
-- ==== Proof.KernelIdealLoop.lean ====
/-
  The two loops of a head, entry by entry: the running maximum and sum over the chunks of the cache, then the weighted values,
  whose total is the attention of the row. The loops over the rest of the chunks make no trip.
-/
module

public import proofs.«01_k».proof.Proof.KernelIdealScores
public import proofs.«01_k».proof.Proof.KernelIdealFrame
public import Idealize.ShloMosaic.Lib.WholeRead

@[expose] public section

set_option maxRecDepth 16384
set_option maxHeartbeats 1000000

noncomputable section

namespace Cert.KernelIdeal.Loop

open Cert.KernelIdeal Cert.KernelIdeal.Gen Cert.KernelIdeal.Pay Cert.Softmax
open Idealize.ShloMosaic Idealize.ShloMosaic.TcCoe Idealize.ShloMosaic.Tactic

/-- The masked scores of a head against the cache, by position: minus infinity past the cache. -/
def cs (n : BitVec 32) (h : Fin 2) (K : Vec Ideal S1x2x2048x128 .fp8e4m3) (X : Vec Ideal S1x2x2048 .f32) (Q : Fin 128 → EReal) (t : ℕ) : EReal :=
  if ht : t < 2048 then score n (BitVec.ofNat 32 t) (fun d => K (ix4 0 h ⟨t, ht⟩ d) * X (ix3 0 h ⟨t, ht⟩)) Q else ⊥

/-- The values of a head in the cache, by position. -/
def cv (h : Fin 2) (V : Vec Ideal S1x2x2048x128 .fp8e4m3) (Y : Vec Ideal S1x2x2048 .f32) (d : Fin 128) (t : ℕ) : EReal :=
  if ht : t < 2048 then V (ix4 0 h ⟨t, ht⟩ d) * Y (ix3 0 h ⟨t, ht⟩) else 0

/-- Past the last chunk every score is minus infinity. -/
theorem cs_bot (n : BitVec 32) (hn : n.toInt ≤ 2048) (h : Fin 2) (K : Vec Ideal S1x2x2048x128 .fp8e4m3) (X : Vec Ideal S1x2x2048 .f32)
    (Q : Fin 128 → EReal) (t : ℕ) (ht : 256 * Chunks.num n ≤ t) : cs n h K X Q t = ⊥ := by
  unfold cs
  split_ifs with h1
  · have hv := Chunks.valid_le n hn
    have e : (BitVec.ofNat 32 t).toInt = t := by
      rw [BitVec.toInt_eq_toNat_of_lt (by rw [BitVec.toNat_ofNat]; omega), BitVec.toNat_ofNat]; omega
    have hs : (BitVec.ofNat 32 t).slt n = false := by
      rw [BitVec.slt_eq_decide, e]; simp only [decide_eq_false_iff_not, not_lt]; omega
    unfold score
    have hc : IntOp.cmpi CmpIPredicate.slt (BitVec.ofNat 32 t) n = 0#1 := by
      show BitVec.ofBool ((BitVec.ofNat 32 t).slt n) = 0#1
      rw [hs]; rfl
    rw [hc]; rfl
  · rfl

/-- A load of chunk `t` of one head reads the buffer at the chunk's positions. -/
theorem chunk4 {κ : Kind} {sp : Space} {M : Memref sig κ sp S1x2x2048x128 .fp8e4m3} (hM : M.IsWhole) (X : Vec Ideal S1x2x2048x128 .fp8e4m3) (h : Fin 2)
    (t : ℕ) (ht : t < 8) (off : Fin 4 → Nat) (ho : off = ![0, h.val, 256 * t, 0]) (inb : ∀ a, off a + S1x1x256x128.size a ≤ S1x2x2048x128.size a)
    (i : Fin 256) (d : Fin 128) :
    M.view.readAt (Elt Ideal) (Rect.unit (s := S1x2x2048x128) off S1x1x256x128.size inb).toLoadRect (hM.unread X) (ix4 0 0 i d) = X (ix4 0 h ⟨256 * t + i, by omega⟩ d) := by
  subst ho
  rw [hM.readAt_unread]
  congr 1
  funext a
  apply Fin.ext
  show (![0, h.val, 256 * t, 0] : Fin 4 → Nat) a + 1 * ((ix4 0 0 i d : S1x1x256x128.Idx) a).val = _
  match a with
  | ⟨0, _⟩ => rfl
  | ⟨1, _⟩ => exact (Nat.add_zero _)
  | ⟨2, _⟩ => show 256 * t + 1 * i.val = 256 * t + i.val; omega
  | ⟨3, _⟩ => show 0 + 1 * d.val = d.val; omega

theorem chunk3 {κ : Kind} {sp : Space} {M : Memref sig κ sp S1x2x2048 .f32} (hM : M.IsWhole) (X : Vec Ideal S1x2x2048 .f32) (h : Fin 2)
    (t : ℕ) (ht : t < 8) (off : Fin 3 → Nat) (ho : off = ![0, h.val, 256 * t]) (inb : ∀ a, off a + S1x1x256.size a ≤ S1x2x2048.size a) (i : Fin 256) :
    M.view.readAt (Elt Ideal) (Rect.unit (s := S1x2x2048) off S1x1x256.size inb).toLoadRect (hM.unread X) (ix3 0 0 i) = X (ix3 0 h ⟨256 * t + i, by omega⟩) := by
  subst ho
  rw [hM.readAt_unread]
  congr 1
  funext a
  apply Fin.ext
  show (![0, h.val, 256 * t] : Fin 3 → Nat) a + 1 * ((ix3 0 0 i : S1x1x256.Idx) a).val = _
  match a with
  | ⟨0, _⟩ => rfl
  | ⟨1, _⟩ => exact (Nat.add_zero _)
  | ⟨2, _⟩ => show 256 * t + 1 * i.val = 256 * t + i.val; omega

/-- The score of entry `i` of chunk `t`, from the chunk's loads. -/
theorem score_chunk (n : BitVec 32) (h : Fin 2) (K : Vec Ideal S1x2x2048x128 .fp8e4m3) (X : Vec Ideal S1x2x2048 .f32) (Q : Fin 128 → EReal)
    (t : ℕ) (ht : t < 8) (i : Fin 256) (k : Vec Ideal S1x1x256x128 .fp8e4m3) (x : Vec Ideal S1x1x256 .f32)
    (hk : ∀ d, k (ix4 0 0 i d) = K (ix4 0 h ⟨256 * t + i, by omega⟩ d)) (hx : x (ix3 0 0 i) = X (ix3 0 h ⟨256 * t + i, by omega⟩)) :
    score n (pos t i) (fun d => k (ix4 0 0 i d) * x (ix3 0 0 i)) Q = cs n h K X Q (256 * t + i) := by
  unfold cs
  rw [dif_pos (show 256 * t + i.val < 2048 by omega), pos_eq t ht i]
  simp only [hk, hx]

theorem trips_eq (n : BitVec 32) : (k0_t1_loop n).trips = Chunks.num n :=
  (congrArg (Scf.trips 0#32 · 1#32) (Chunks.bound_eq n)).trans (Chunks.trips_main n)

theorem trips_rest (n : BitVec 32) : (k0_t2_loop n).trips = 0 :=
  (congrArg₂ (fun a b => Scf.trips a b 1#32) (Chunks.bound_eq n) (Chunks.bound_eq' n)).trans (Chunks.trips_rest _)

end Cert.KernelIdeal.Loop
-- ==== Proof.KernelIdealHead0.lean ====
/-
  Head 0 of the kernel: the running maximum and sum over the chunks of the cache, then the weighted values, whose total is
  the attention of the row.
-/
module

public import proofs.«01_k».proof.Proof.KernelIdealLoop

@[expose] public section

set_option maxRecDepth 16384
set_option maxHeartbeats 1000000

noncomputable section

namespace Cert.KernelIdeal.Loop

open Cert.KernelIdeal Cert.KernelIdeal.Gen Cert.KernelIdeal.Pay Cert.Softmax
open Idealize.ShloMosaic Idealize.ShloMosaic.TcCoe Idealize.ShloMosaic.Tactic

variable (𝒱 : Variants) (c : Dev nD) (bd : Option 𝒱.V) (pt : grid0.Coords) (arg1 : Memref sig .tc .smem S64 .i32) (harg1 : arg1.IsWhole) (arg2 : Memref sig .tc .vmem S1x32x32x128 .bf16) (harg2 : arg2.IsWhole) (arg3 : Memref sig .tc .vmem S1x32x2x128 .bf16) (harg3 : arg3.IsWhole) (arg4 : Memref sig .tc .vmem S1x32x2x128 .bf16) (harg4 : arg4.IsWhole) (arg5 : Memref sig .tc .vmem S1x2x2048x128 .fp8e4m3) (harg5 : arg5.IsWhole) (arg6 : Memref sig .tc .vmem S1x2x2048 .f32) (harg6 : arg6.IsWhole) (arg7 : Memref sig .tc .vmem S1x2x2048x128 .fp8e4m3) (harg7 : arg7.IsWhole) (arg8 : Memref sig .tc .vmem S1x2x2048 .f32) (harg8 : arg8.IsWhole) (arg9 : Memref sig .tc .vmem S32x512 .f32) (harg9 : arg9.IsWhole) (arg10 : Memref sig .tc .vmem S1x32x32x128 .bf16) (harg10 : arg10.IsWhole) (arg11 : Memref sig .tc .vmem S1x2x32x128 .fp8e4m3) (harg11 : arg11.IsWhole) (arg12 : Memref sig .tc .vmem S1x2x32x1 .f32) (harg12 : arg12.IsWhole) (arg13 : Memref sig .tc .vmem S1x2x32x128 .fp8e4m3) (harg13 : arg13.IsWhole) (arg14 : Memref sig .tc .vmem S1x2x32x1 .f32) (harg14 : arg14.IsWhole)
  (n : BitVec 32) (hw : k0_chk1 n) (b : FVec Ideal S32x512 .f32) (x y : FVec Ideal S32x1 .f32) (k v : FVec Ideal S32x128 .fp8e4m3) (q : Vec Ideal S1x32x16x128 .bf16)
  (x4 : Vec Ideal S1x2x2048x128 .fp8e4m3) (x5 : Vec Ideal S1x2x2048 .f32) (x6 : Vec Ideal S1x2x2048x128 .fp8e4m3) (x7 : Vec Ideal S1x2x2048 .f32)

/-! ## Head 0 -/

theorem off_k0 (t : Fin (k0_t1_loop n).trips) (ht : t.val < 8) : k0_off2 n t = ![0, (0 : Fin 2).val, 256 * t.val, 0] :=
  congrArg (fun z => ![0, (0 : Fin 2).val, z, 0]) (Chunks.toNat_pos t.val ht)
theorem off_x0 (t : Fin (k0_t1_loop n).trips) (ht : t.val < 8) : k0_off3 n t = ![0, (0 : Fin 2).val, 256 * t.val] :=
  congrArg (fun z => ![0, (0 : Fin 2).val, z]) (Chunks.toNat_pos t.val ht)
theorem off_v0 (t : Fin (k0_t3_loop n).trips) (ht : t.val < 8) : k0_off6 n t = ![0, (0 : Fin 2).val, 256 * t.val, 0] :=
  congrArg (fun z => ![0, (0 : Fin 2).val, z, 0]) (Chunks.toNat_pos t.val ht)
theorem off_y0 (t : Fin (k0_t3_loop n).trips) (ht : t.val < 8) : k0_off7 n t = ![0, (0 : Fin 2).val, 256 * t.val] :=
  congrArg (fun z => ![0, (0 : Fin 2).val, z]) (Chunks.toNat_pos t.val ht)

/-- The running maximum and sum before trip `t`. -/
@[irreducible] def stats0 (t : ℕ) : FVec Ideal S1x512 .f32 × FVec Ideal S1x512 .f32 :=
  st_k0_t1 (F := Ideal) 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x k y v q (harg5.unread x4) (harg6.unread x5) (k0_pay33 b x k q, k0_pay34 b x k q) t

theorem stats0_def (t : ℕ) : stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 t = st_k0_t1 (F := Ideal) 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x k y v q (harg5.unread x4) (harg6.unread x5) (k0_pay33 b x k q, k0_pay34 b x k q) t := by unfold stats0; rfl

theorem stats0_zero : stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 0 = (k0_pay33 b x k q, k0_pay34 b x k q) := by
  unfold stats0
  exact st_k0_t1_zero (F := Ideal) 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x k y v q (harg5.unread x4) (harg6.unread x5) (k0_pay33 b x k q, k0_pay34 b x k q)

theorem stats0_succ (t : Fin (k0_t1_loop n).trips) (ht : t.val < 8) (r : Fin 512) :
    (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (t.val + 1)).1 (ix2 0 r)
        = max ((stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 t.val).1 (ix2 0 r)) (Finset.univ.sup fun i : Fin 256 => cs n 0 x4 x5 (fun d => k0_pay31 (F := Ideal) q (ix2 r d)) (256 * t.val + i))
      ∧ (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (t.val + 1)).2 (ix2 0 r)
        = (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 t.val).2 (ix2 0 r)
            * Ideal.exp ((stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 t.val).1 (ix2 0 r) - (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (t.val + 1)).1 (ix2 0 r))
          + ∑ i : Fin 256, Ideal.exp (cs n 0 x4 x5 (fun d => k0_pay31 (F := Ideal) q (ix2 r d)) (256 * t.val + i) - (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (t.val + 1)).1 (ix2 0 r)) := by
  have e := st_k0_t1_succ (F := Ideal) 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x k y v q (harg5.unread x4) (harg6.unread x5) (k0_pay33 b x k q, k0_pay34 b x k q) t
  rw [← stats0_def, ← stats0_def] at e
  unfold tripR_k0_t1 trip_k0_t1 at e
  dsimp only at e
  generalize stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (t.val + 1) = S1 at *
  generalize stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 t.val = S0 at *
  have hsc : ∀ i : Fin 256, k0_pay35 (F := Ideal) n q t (View.readAt (Elt Ideal) arg5.view (Rect.unit (s := S1x2x2048x128) (k0_off2 n t) S1x1x256x128.size (k0_off2_inb n hw t)).toLoadRect (harg5.unread x4))
      (View.readAt (Elt Ideal) arg6.view (Rect.unit (s := S1x2x2048) (k0_off3 n t) S1x1x256.size (k0_off3_inb n hw t)).toLoadRect (harg6.unread x5)) (ix2 i r)
      = cs n 0 x4 x5 (fun d => k0_pay31 (F := Ideal) q (ix2 r d)) (256 * t.val + i) := fun i =>
    (pay35_at q i r n t _ _).trans (score_chunk n 0 x4 x5 _ t.val ht i _ _ (fun d => chunk4 harg5 x4 0 t.val ht _ (off_k0 n t ht) _ i d) (chunk3 harg6 x5 0 t.val ht _ (off_x0 n t ht) _ i))
  have h1 := congrFun (congrArg Prod.fst e) (ix2 0 r)
  have h2 := congrFun (congrArg Prod.snd e) (ix2 0 r)
  have h1' := h1.trans (pay36_at q r n t _ _ _)
  have h2' := h2.trans (pay37_at q r n t _ _ _ _)
  simp only [hsc] at h1' h2'
  have h1c : S1.1 (ix2 0 r) = k0_pay36 (F := Ideal) n q t S0.1 _ _ (ix2 0 r) := h1
  rw [← h1c] at h2'
  exact ⟨h1', h2'⟩

/-- The total before trip `t` of the loop over the values. -/
@[irreducible] def total0 (w1 : FVec Ideal S32x128 .bf16) (w2 : BitVec 32) (w3 : FVec Ideal S128x512 .f32) (t : ℕ) : FVec Ideal S128x512 .f32 :=
  st_k0_t3 (F := Ideal) 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw w1 (k0_pay31 q) w2 (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1
    (k0_pay41 (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2) w3 (harg5.unread x4) (harg6.unread x5) (harg7.unread x6) (harg8.unread x7)
    (k0_pay42 b x k y v q (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1 (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2) t

theorem total0_def (w1 : FVec Ideal S32x128 .bf16) (w2 : BitVec 32) (w3 : FVec Ideal S128x512 .f32) (t : ℕ) : total0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 w1 w2 w3 t = st_k0_t3 (F := Ideal) 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw w1 (k0_pay31 q) w2 (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1
    (k0_pay41 (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2) w3 (harg5.unread x4) (harg6.unread x5) (harg7.unread x6) (harg8.unread x7)
    (k0_pay42 b x k y v q (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1 (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2) t := by unfold total0; rfl

theorem total0_zero (w1 : FVec Ideal S32x128 .bf16) (w2 : BitVec 32) (w3 : FVec Ideal S128x512 .f32) : total0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 w1 w2 w3 0
    = k0_pay42 b x k y v q (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1 (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2 := by
  unfold total0
  exact st_k0_t3_zero (F := Ideal) 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw w1 (k0_pay31 q) w2 (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1
    (k0_pay41 (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2) w3 (harg5.unread x4) (harg6.unread x5) (harg7.unread x6) (harg8.unread x7)
    (k0_pay42 b x k y v q (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1 (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2)

theorem total0_succ (w1 : FVec Ideal S32x128 .bf16) (w2 : BitVec 32) (w3 : FVec Ideal S128x512 .f32) (t : Fin (k0_t3_loop n).trips) (ht : t.val < 8) (d : Fin 128) (r : Fin 512) :
    total0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 w1 w2 w3 (t.val + 1) (ix2 d r)
      = total0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 w1 w2 w3 t.val (ix2 d r)
        + ∑ i : Fin 256, cv 0 x6 x7 d (256 * t.val + i)
            * weight ((stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1 (ix2 0 r)) ((stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2 (ix2 0 r))
              (cs n 0 x4 x5 (fun d => k0_pay31 (F := Ideal) q (ix2 r d)) (256 * t.val + i)) := by
  have e := st_k0_t3_succ (F := Ideal) 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw w1 (k0_pay31 q) w2 (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1
    (k0_pay41 (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2) w3 (harg5.unread x4) (harg6.unread x5) (harg7.unread x6) (harg8.unread x7)
    (k0_pay42 b x k y v q (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1 (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2) t
  rw [← total0_def, ← total0_def] at e
  unfold tripR_k0_t3 trip_k0_t3 at e
  dsimp only at e
  generalize total0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 w1 w2 w3 (t.val + 1) = U1 at *
  generalize total0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 w1 w2 w3 t.val = U0 at *
  generalize stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n) = S at *
  have h1 := (congrFun e (ix2 d r)).trans (pay43_at d r _ _)
  refine h1.trans (congrArg₂ (· + ·) rfl ((pay4_at d r n _ _ _ t _ _ _ _).trans (Finset.sum_congr rfl fun i _ => ?_)))
  have hv := chunk4 harg7 x6 0 t.val ht _ (off_v0 n t ht) (k0_off6_inb n hw t) i d
  have hy := chunk3 harg8 x7 0 t.val ht _ (off_y0 n t ht) (k0_off7_inb n hw t) i
  have hs := score_chunk n 0 x4 x5 (fun d => k0_pay31 (F := Ideal) q (ix2 r d)) t.val ht i _ _ (fun d => chunk4 harg5 x4 0 t.val ht _ (off_v0 n t ht) (k0_off6_inb n hw t) i d)
    (chunk3 harg6 x5 0 t.val ht _ (off_y0 n t ht) (k0_off7_inb n hw t) i)
  have hc : cv 0 x6 x7 d (256 * t.val + i) = x6 (ix4 0 0 ⟨256 * t.val + i, by omega⟩ d) * x7 (ix3 0 0 ⟨256 * t.val + i, by omega⟩) := by
    unfold cv
    rw [dif_pos (show 256 * t.val + i.val < 2048 by omega)]
  exact congrArg₂ (· * ·) ((congrArg₂ (· * ·) hv hy).trans hc.symm) (congrArg (weight _ _) hs)

/-- The total after the last chunk is the attention of the row. -/
theorem total0_eq (w1 : FVec Ideal S32x128 .bf16) (w2 : BitVec 32) (w3 : FVec Ideal S128x512 .f32) (hn : n.toInt ≤ 2048) (d : Fin 128) (r : Fin 512) :
    total0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 w1 w2 w3 (Chunks.num n) (ix2 d r)
      = attend (fun t => cs n 0 x4 x5 (fun d => k0_pay31 (F := Ideal) q (ix2 r d)) t) (fun t => cv 0 x6 x7 d t)
          (fun j => k0_pay32 (F := Ideal) b x k q (ix2 j r)) (fun j => v (ix2 j d) * y (ix2 j 0)) := by
  have h8 := Chunks.num_le n hn
  have h33 := @pay33_at
  have hT : (k0_t1_loop n).trips = Chunks.num n := trips_eq n
  refine chunked (fun j => k0_pay32 (F := Ideal) b x k q (ix2 j r)) (fun j => v (ix2 j d) * y (ix2 j 0)) (cs n 0 x4 x5 fun d => k0_pay31 (F := Ideal) q (ix2 r d)) (cv 0 x6 x7 d)
    (Chunks.num n) h8 (fun t ht => cs_bot n hn 0 x4 x5 _ t ht)
    (fun t => (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 t).1 (ix2 0 r)) (fun t => (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 t).2 (ix2 0 r))
    (fun t => total0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 w1 w2 w3 t (ix2 d r)) ?_ ?_ ?_ ?_ ?_ ?_
  · show (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 0).1 (ix2 0 r) = _
    rw [stats0_zero]; dsimp only;
    exact h33 q r b x k
  · show (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 0).2 (ix2 0 r) = ∑ j, Ideal.exp (k0_pay32 (F := Ideal) b x k q (ix2 j r) - (stats0 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 0).1 (ix2 0 r))
    rw [stats0_zero]; dsimp only;
    exact pay34_at q r b x k
  · intro t ht
    exact (stats0_succ 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 ⟨t, by rw [hT]; exact ht⟩ (by show t < 8; omega) r).1
  · intro t ht
    exact (stats0_succ 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 ⟨t, by rw [hT]; exact ht⟩ (by show t < 8; omega) r).2
  · rw [total0_zero]; exact pay42_at q d r b x y k v _ _
  · intro t ht
    exact total0_succ 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 w1 w2 w3 ⟨t, by have hT' : (k0_t3_loop n).trips = Chunks.num n := trips_eq n; rw [hT']; exact ht⟩ (by show t < 8; omega) d r

end Cert.KernelIdeal.Loop
-- ==== Proof.KernelIdealHead1.lean ====
/-
  Head 1 of the kernel: the running maximum and sum over the chunks of the cache, then the weighted values, whose total is
  the attention of the row.
-/
module

public import proofs.«01_k».proof.Proof.KernelIdealLoop

@[expose] public section

set_option maxRecDepth 16384
set_option maxHeartbeats 1000000

noncomputable section

namespace Cert.KernelIdeal.Loop

open Cert.KernelIdeal Cert.KernelIdeal.Gen Cert.KernelIdeal.Pay Cert.Softmax
open Idealize.ShloMosaic Idealize.ShloMosaic.TcCoe Idealize.ShloMosaic.Tactic

variable (𝒱 : Variants) (c : Dev nD) (bd : Option 𝒱.V) (pt : grid0.Coords) (arg1 : Memref sig .tc .smem S64 .i32) (harg1 : arg1.IsWhole) (arg2 : Memref sig .tc .vmem S1x32x32x128 .bf16) (harg2 : arg2.IsWhole) (arg3 : Memref sig .tc .vmem S1x32x2x128 .bf16) (harg3 : arg3.IsWhole) (arg4 : Memref sig .tc .vmem S1x32x2x128 .bf16) (harg4 : arg4.IsWhole) (arg5 : Memref sig .tc .vmem S1x2x2048x128 .fp8e4m3) (harg5 : arg5.IsWhole) (arg6 : Memref sig .tc .vmem S1x2x2048 .f32) (harg6 : arg6.IsWhole) (arg7 : Memref sig .tc .vmem S1x2x2048x128 .fp8e4m3) (harg7 : arg7.IsWhole) (arg8 : Memref sig .tc .vmem S1x2x2048 .f32) (harg8 : arg8.IsWhole) (arg9 : Memref sig .tc .vmem S32x512 .f32) (harg9 : arg9.IsWhole) (arg10 : Memref sig .tc .vmem S1x32x32x128 .bf16) (harg10 : arg10.IsWhole) (arg11 : Memref sig .tc .vmem S1x2x32x128 .fp8e4m3) (harg11 : arg11.IsWhole) (arg12 : Memref sig .tc .vmem S1x2x32x1 .f32) (harg12 : arg12.IsWhole) (arg13 : Memref sig .tc .vmem S1x2x32x128 .fp8e4m3) (harg13 : arg13.IsWhole) (arg14 : Memref sig .tc .vmem S1x2x32x1 .f32) (harg14 : arg14.IsWhole)
  (n : BitVec 32) (hw : k0_chk1 n) (b : FVec Ideal S32x512 .f32) (x y : FVec Ideal S32x1 .f32) (k v : FVec Ideal S32x128 .fp8e4m3) (q : Vec Ideal S1x32x16x128 .bf16)
  (x4 : Vec Ideal S1x2x2048x128 .fp8e4m3) (x5 : Vec Ideal S1x2x2048 .f32) (x6 : Vec Ideal S1x2x2048x128 .fp8e4m3) (x7 : Vec Ideal S1x2x2048 .f32)

/-! ## Head 1 -/

theorem off_k1 (t : Fin (k0_t5_loop n).trips) (ht : t.val < 8) : k0_off10 n t = ![0, (1 : Fin 2).val, 256 * t.val, 0] :=
  congrArg (fun z => ![0, (1 : Fin 2).val, z, 0]) (Chunks.toNat_pos t.val ht)
theorem off_x1 (t : Fin (k0_t5_loop n).trips) (ht : t.val < 8) : k0_off11 n t = ![0, (1 : Fin 2).val, 256 * t.val] :=
  congrArg (fun z => ![0, (1 : Fin 2).val, z]) (Chunks.toNat_pos t.val ht)
theorem off_v1 (t : Fin (k0_t7_loop n).trips) (ht : t.val < 8) : k0_off14 n t = ![0, (1 : Fin 2).val, 256 * t.val, 0] :=
  congrArg (fun z => ![0, (1 : Fin 2).val, z, 0]) (Chunks.toNat_pos t.val ht)
theorem off_y1 (t : Fin (k0_t7_loop n).trips) (ht : t.val < 8) : k0_off15 n t = ![0, (1 : Fin 2).val, 256 * t.val] :=
  congrArg (fun z => ![0, (1 : Fin 2).val, z]) (Chunks.toNat_pos t.val ht)

/-- The running maximum and sum before trip `t`. -/
@[irreducible] def stats1 (t : ℕ) : FVec Ideal S1x512 .f32 × FVec Ideal S1x512 .f32 :=
  st_k0_t5 (F := Ideal) 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x k y v q (harg5.unread x4) (harg6.unread x5) (k0_pay65 b x k q, k0_pay66 b x k q) t

theorem stats1_def (t : ℕ) : stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 t = st_k0_t5 (F := Ideal) 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x k y v q (harg5.unread x4) (harg6.unread x5) (k0_pay65 b x k q, k0_pay66 b x k q) t := by unfold stats1; rfl

theorem stats1_zero : stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 0 = (k0_pay65 b x k q, k0_pay66 b x k q) := by
  unfold stats1
  exact st_k0_t5_zero (F := Ideal) 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x k y v q (harg5.unread x4) (harg6.unread x5) (k0_pay65 b x k q, k0_pay66 b x k q)

theorem stats1_succ (t : Fin (k0_t5_loop n).trips) (ht : t.val < 8) (r : Fin 512) :
    (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (t.val + 1)).1 (ix2 0 r)
        = max ((stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 t.val).1 (ix2 0 r)) (Finset.univ.sup fun i : Fin 256 => cs n 1 x4 x5 (fun d => k0_pay31 (F := Ideal) q (ix2 r d)) (256 * t.val + i))
      ∧ (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (t.val + 1)).2 (ix2 0 r)
        = (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 t.val).2 (ix2 0 r)
            * Ideal.exp ((stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 t.val).1 (ix2 0 r) - (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (t.val + 1)).1 (ix2 0 r))
          + ∑ i : Fin 256, Ideal.exp (cs n 1 x4 x5 (fun d => k0_pay31 (F := Ideal) q (ix2 r d)) (256 * t.val + i) - (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (t.val + 1)).1 (ix2 0 r)) := by
  have e := st_k0_t5_succ (F := Ideal) 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x k y v q (harg5.unread x4) (harg6.unread x5) (k0_pay65 b x k q, k0_pay66 b x k q) t
  rw [← stats1_def, ← stats1_def] at e
  unfold tripR_k0_t5 trip_k0_t5 at e
  dsimp only at e
  generalize stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (t.val + 1) = S1 at *
  generalize stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 t.val = S0 at *
  have hsc : ∀ i : Fin 256, k0_pay35 (F := Ideal) n q t (View.readAt (Elt Ideal) arg5.view (Rect.unit (s := S1x2x2048x128) (k0_off10 n t) S1x1x256x128.size (k0_off10_inb n hw t)).toLoadRect (harg5.unread x4))
      (View.readAt (Elt Ideal) arg6.view (Rect.unit (s := S1x2x2048) (k0_off11 n t) S1x1x256.size (k0_off11_inb n hw t)).toLoadRect (harg6.unread x5)) (ix2 i r)
      = cs n 1 x4 x5 (fun d => k0_pay31 (F := Ideal) q (ix2 r d)) (256 * t.val + i) := fun i =>
    (pay35_at q i r n t _ _).trans (score_chunk n 1 x4 x5 _ t.val ht i _ _ (fun d => chunk4 harg5 x4 1 t.val ht _ (off_k1 n t ht) _ i d) (chunk3 harg6 x5 1 t.val ht _ (off_x1 n t ht) _ i))
  have h1 := congrFun (congrArg Prod.fst e) (ix2 0 r)
  have h2 := congrFun (congrArg Prod.snd e) (ix2 0 r)
  have h1' := h1.trans (pay36_at q r n t _ _ _)
  have h2' := h2.trans (pay37_at q r n t _ _ _ _)
  simp only [hsc] at h1' h2'
  have h1c : S1.1 (ix2 0 r) = k0_pay36 (F := Ideal) n q t S0.1 _ _ (ix2 0 r) := h1
  rw [← h1c] at h2'
  exact ⟨h1', h2'⟩

/-- The total before trip `t` of the loop over the values. -/
@[irreducible] def total1 (t : ℕ) : FVec Ideal S128x512 .f32 :=
  st_k0_t7 (F := Ideal) 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw (k0_pay63 q) (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1
    (k0_pay73 (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2) 0#32 1#32 (harg5.unread x4) (harg6.unread x5) (harg7.unread x6) (harg8.unread x7)
    (k0_pay74 b x k y v q (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1 (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2) t

theorem total1_def (t : ℕ) : total1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 t = st_k0_t7 (F := Ideal) 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw (k0_pay63 q) (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1
    (k0_pay73 (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2) 0#32 1#32 (harg5.unread x4) (harg6.unread x5) (harg7.unread x6) (harg8.unread x7)
    (k0_pay74 b x k y v q (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1 (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2) t := by unfold total1; rfl

theorem total1_zero : total1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 0
    = k0_pay74 b x k y v q (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1 (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2 := by
  unfold total1
  exact st_k0_t7_zero (F := Ideal) 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw (k0_pay63 q) (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1
    (k0_pay73 (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2) 0#32 1#32 (harg5.unread x4) (harg6.unread x5) (harg7.unread x6) (harg8.unread x7)
    (k0_pay74 b x k y v q (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1 (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2)

theorem total1_succ (t : Fin (k0_t7_loop n).trips) (ht : t.val < 8) (d : Fin 128) (r : Fin 512) :
    total1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 (t.val + 1) (ix2 d r)
      = total1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 t.val (ix2 d r)
        + ∑ i : Fin 256, cv 1 x6 x7 d (256 * t.val + i)
            * weight ((stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1 (ix2 0 r)) ((stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2 (ix2 0 r))
              (cs n 1 x4 x5 (fun d => k0_pay31 (F := Ideal) q (ix2 r d)) (256 * t.val + i)) := by
  have e := st_k0_t7_succ (F := Ideal) 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw (k0_pay63 q) (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1
    (k0_pay73 (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2) 0#32 1#32 (harg5.unread x4) (harg6.unread x5) (harg7.unread x6) (harg8.unread x7)
    (k0_pay74 b x k y v q (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).1 (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n)).2) t
  rw [← total1_def, ← total1_def] at e
  unfold tripR_k0_t7 trip_k0_t7 trip_k0_t7.sl.r at e
  dsimp only at e
  generalize total1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 (t.val + 1) = U1 at *
  generalize total1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 t.val = U0 at *
  generalize stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 (Chunks.num n) = S at *
  have h1 := (congrFun e (ix2 d r)).trans (pay43_at d r _ _)
  refine h1.trans (congrArg₂ (· + ·) rfl ((pay4_at d r n _ _ _ t _ _ _ _).trans (Finset.sum_congr rfl fun i _ => ?_)))
  have hv := chunk4 harg7 x6 1 t.val ht _ (off_v1 n t ht) (k0_off14_inb n hw t) i d
  have hy := chunk3 harg8 x7 1 t.val ht _ (off_y1 n t ht) (k0_off15_inb n hw t) i
  have hs := score_chunk n 1 x4 x5 (fun d => k0_pay31 (F := Ideal) q (ix2 r d)) t.val ht i _ _ (fun d => chunk4 harg5 x4 1 t.val ht _ (off_v1 n t ht) (k0_off14_inb n hw t) i d)
    (chunk3 harg6 x5 1 t.val ht _ (off_y1 n t ht) (k0_off15_inb n hw t) i)
  have hc : cv 1 x6 x7 d (256 * t.val + i) = x6 (ix4 0 1 ⟨256 * t.val + i, by omega⟩ d) * x7 (ix3 0 1 ⟨256 * t.val + i, by omega⟩) := by
    unfold cv
    rw [dif_pos (show 256 * t.val + i.val < 2048 by omega)]
  exact congrArg₂ (· * ·) ((congrArg₂ (· * ·) hv hy).trans hc.symm) (congrArg (weight _ _) hs)

/-- The total after the last chunk is the attention of the row. -/
theorem total1_eq (hn : n.toInt ≤ 2048) (d : Fin 128) (r : Fin 512) :
    total1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 (Chunks.num n) (ix2 d r)
      = attend (fun t => cs n 1 x4 x5 (fun d => k0_pay31 (F := Ideal) q (ix2 r d)) t) (fun t => cv 1 x6 x7 d t)
          (fun j => k0_pay32 (F := Ideal) b x k q (ix2 j r)) (fun j => v (ix2 j d) * y (ix2 j 0)) := by
  have h8 := Chunks.num_le n hn
  have h33 := @pay33_at
  have hT : (k0_t5_loop n).trips = Chunks.num n := trips_eq n
  refine chunked (fun j => k0_pay32 (F := Ideal) b x k q (ix2 j r)) (fun j => v (ix2 j d) * y (ix2 j 0)) (cs n 1 x4 x5 fun d => k0_pay31 (F := Ideal) q (ix2 r d)) (cv 1 x6 x7 d)
    (Chunks.num n) h8 (fun t ht => cs_bot n hn 1 x4 x5 _ t ht)
    (fun t => (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 t).1 (ix2 0 r)) (fun t => (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 t).2 (ix2 0 r))
    (fun t => total1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 t (ix2 d r)) ?_ ?_ ?_ ?_ ?_ ?_
  · show (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 0).1 (ix2 0 r) = _
    rw [stats1_zero]; dsimp only; rw [pay65_eq]
    exact h33 q r b x k
  · show (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 0).2 (ix2 0 r) = ∑ j, Ideal.exp (k0_pay32 (F := Ideal) b x k q (ix2 j r) - (stats1 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 0).1 (ix2 0 r))
    rw [stats1_zero]; dsimp only; rw [pay65_eq, pay66_eq]
    exact pay34_at q r b x k
  · intro t ht
    exact (stats1_succ 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 ⟨t, by rw [hT]; exact ht⟩ (by show t < 8; omega) r).1
  · intro t ht
    exact (stats1_succ 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 ⟨t, by rw [hT]; exact ht⟩ (by show t < 8; omega) r).2
  · rw [total1_zero]; exact pay42_at q d r b x y k v _ _
  · intro t ht
    exact total1_succ 𝒱 c bd pt arg1 harg1 arg2 harg2 arg3 harg3 arg4 harg4 arg5 harg5 arg6 harg6 arg7 harg7 arg8 harg8 arg9 harg9 arg10 harg10 arg11 harg11 arg12 harg12 arg13 harg13 arg14 harg14 n hw b x y k v q x4 x5 x6 x7 ⟨t, by have hT' : (k0_t7_loop n).trips = Chunks.num n := trips_eq n; rw [hT']; exact ht⟩ (by show t < 8; omega) d r

end Cert.KernelIdeal.Loop
-- ==== Proof.KernelIdealOut.lean ====
/-
  What one grid point leaves in the blocks of the four quantiser outputs, entry by entry: the codes and the scales of the
  rows of the point's blocks of new keys and values.
-/
module

public import proofs.«01_k».proof.Proof.KernelIdealFrame
public import proofs.«01_k».proof.Proof.KernelIdealQuant
public import Idealize.ShloMosaic.Lib.Pipeline.Value
public import Idealize.ShloMosaic.Lib.Pipeline.ValueKit
public import Idealize.ShloMosaic.Lib.WholeRead

@[expose] public section

set_option maxRecDepth 16384

noncomputable section

namespace Cert.KernelIdeal.Out

open Cert.KernelIdeal Cert.KernelIdeal.Gen Cert.KernelIdeal.Run Cert.KernelIdeal.Pay Cert.Quant
open Idealize.ShloMosaic Idealize.ShloMosaic.TcCoe Idealize.ShloMosaic.Tactic

/-- A block of codes and one of scales, from the rows of a block of new keys or values. -/
def codes (x : FVec Ideal S1x32x2x128 .bf16) : FVec Ideal S1x2x32x128 .fp8e4m3 := fun y => kcode (row (y 1) x (y 2)) (y 3)
def scales (x : FVec Ideal S1x32x2x128 .bf16) : FVec Ideal S1x2x32x1 .f32 := fun y => kscale (ratio (row (y 1) x (y 2)))

/-- A load of the whole buffer reads the contents. -/
theorem readAt_whole {s : Shape} {e : EltTy} {κ : Kind} {sp : Space} {M : Memref sig κ sp s e} (h : M.IsWhole) (X : s.Idx → Elt Ideal e)
    (off : Fin s.rank → Nat) (h0 : ∀ a, off a = 0) (inb : ∀ a, off a + s.size a ≤ s.size a) :
    M.view.readAt (Elt Ideal) (Rect.unit off s.size inb).toLoadRect (h.unread X) = X := by
  funext x
  rw [h.readAt_unread]
  congr 1
  funext a
  apply Fin.ext
  show off a + 1 * (x a).val = _
  rw [h0, one_mul, Nat.zero_add]

/-- An index of a block of one head of one sequence, by its token and its entry. -/
theorem exists_ix4 {n : Nat} (x : (⟨4, ![1, 1, 32, n]⟩ : Shape).Idx) : ∃ (s : Fin 32) (d : Fin n), x = ix4 0 0 s d := by
  refine ⟨x 2, x 3, ?_⟩
  conv_lhs => rw [eq_ix4 x]
  congr 1
  · exact Fin.ext (by have : (x 0).val < 1 := (x 0).isLt; show (x 0).val = 0; omega)
  · exact Fin.ext (by have : (x 1).val < 1 := (x 1).isLt; show (x 1).val = 0; omega)

theorem exists_ix4_one (x : (⟨4, ![1, 1, 32, 1]⟩ : Shape).Idx) : ∃ (s : Fin 32), x = ix4 0 0 s 0 := by
  obtain ⟨s, d, rfl⟩ := exists_ix4 x
  exact ⟨s, by rw [Subsingleton.elim d 0]⟩

/-- Where the block of head `h` of one sequence sits in the block of both heads. -/
theorem emb_head {n : Nat} (h : Fin 2) (inb) (s : Fin 32) (d : Fin n) :
    (Rect.unit (s := ⟨4, ![1, 2, 32, n]⟩) ![0, h.val, 0, 0] (⟨4, ![1, 1, 32, n]⟩ : Shape).size inb).emb (ix4 0 0 s d) = ix4 0 h s d := by
  funext a
  apply Fin.ext
  show (![0, h.val, 0, 0] : Fin 4 → Nat) a + 1 * ((ix4 0 0 s d : (⟨4, ![1, 1, 32, n]⟩ : Shape).Idx) a).val = _
  match a with
  | ⟨0, _⟩ => rfl
  | ⟨1, _⟩ => exact (Nat.add_zero _)
  | ⟨2, _⟩ => show 0 + 1 * s.val = s.val; omega
  | ⟨3, _⟩ => show 0 + 1 * d.val = d.val; omega

section Pieces

variable (c : Dev nD) (i : grid0.Coords) (arg1 : Memref sig .tc .smem S64 .i32) (harg1 : arg1.IsWhole) (arg2 : Memref sig .tc .vmem S1x32x32x128 .bf16) (harg2 : arg2.IsWhole) (arg3 : Memref sig .tc .vmem S1x32x2x128 .bf16) (harg3 : arg3.IsWhole) (arg4 : Memref sig .tc .vmem S1x32x2x128 .bf16) (harg4 : arg4.IsWhole) (arg5 : Memref sig .tc .vmem S1x2x2048x128 .fp8e4m3) (harg5 : arg5.IsWhole) (arg6 : Memref sig .tc .vmem S1x2x2048 .f32) (harg6 : arg6.IsWhole) (arg7 : Memref sig .tc .vmem S1x2x2048x128 .fp8e4m3) (harg7 : arg7.IsWhole) (arg8 : Memref sig .tc .vmem S1x2x2048 .f32) (harg8 : arg8.IsWhole) (arg9 : Memref sig .tc .vmem S32x512 .f32) (harg9 : arg9.IsWhole) (arg10 : Memref sig .tc .vmem S1x32x32x128 .bf16) (harg10 : arg10.IsWhole) (arg11 : Memref sig .tc .vmem S1x2x32x128 .fp8e4m3) (harg11 : arg11.IsWhole) (arg12 : Memref sig .tc .vmem S1x2x32x1 .f32) (harg12 : arg12.IsWhole) (arg13 : Memref sig .tc .vmem S1x2x32x128 .fp8e4m3) (harg13 : arg13.IsWhole) (arg14 : Memref sig .tc .vmem S1x2x32x1 .f32) (harg14 : arg14.IsWhole)
  (x0 : Vec Ideal S64 .i32) (x1 : Vec Ideal S1x32x32x128 .bf16) (x2 : Vec Ideal S1x32x2x128 .bf16) (x3 : Vec Ideal S1x32x2x128 .bf16) (x4 : Vec Ideal S1x2x2048x128 .fp8e4m3) (x5 : Vec Ideal S1x2x2048 .f32) (x6 : Vec Ideal S1x2x2048x128 .fp8e4m3) (x7 : Vec Ideal S1x2x2048 .f32) (x8 : Vec Ideal S32x512 .f32) (k0_hw1 : k0_chk1 (arg1.view.readAt (Elt Ideal) (Rect.unit (s := S64) (k0_off1 i) S1.size (k0_off1_inb i)).toLoadRect (harg1.unread x0) (Shape.Idx.first (numel1_S1.symm ▸ Nat.one_pos))))

/-! ## The kernel body on any staging memrefs: a subtype the run finds -/

/-- One staging buffer of output window 9, through which its contents are stated (`View.read_writes_of_cover`: the
    choice does not matter). -/
abbrev VO0_9 : View sig .tc .vmem S1x32x32x128 .bf16 := (Memref.whole cc0_stg9_0 : Memref sig .tc .vmem S1x32x32x128 .bf16).view
/-- One staging buffer of output window 10, through which its contents are stated (`View.read_writes_of_cover`: the
    choice does not matter). -/
abbrev VO0_10 : View sig .tc .vmem S1x2x32x128 .fp8e4m3 := (Memref.whole cc0_stg10_0 : Memref sig .tc .vmem S1x2x32x128 .fp8e4m3).view
/-- One staging buffer of output window 11, through which its contents are stated (`View.read_writes_of_cover`: the
    choice does not matter). -/
abbrev VO0_11 : View sig .tc .vmem S1x2x32x1 .f32 := (Memref.whole cc0_stg11_0 : Memref sig .tc .vmem S1x2x32x1 .f32).view
/-- One staging buffer of output window 12, through which its contents are stated (`View.read_writes_of_cover`: the
    choice does not matter). -/
abbrev VO0_12 : View sig .tc .vmem S1x2x32x128 .fp8e4m3 := (Memref.whole cc0_stg12_0 : Memref sig .tc .vmem S1x2x32x128 .fp8e4m3).view
/-- One staging buffer of output window 13, through which its contents are stated (`View.read_writes_of_cover`: the
    choice does not matter). -/
abbrev VO0_13 : View sig .tc .vmem S1x2x32x1 .f32 := (Memref.whole cc0_stg13_0 : Memref sig .tc .vmem S1x2x32x1 .f32).view

theorem whole2 : View.readAt (Elt Ideal) arg3.view (Rect.unit ![0, 0, 0, 0] S1x32x2x128.size inb_S1x32x2x128_S1x32x2x128_0_0_0_0).toLoadRect (harg3.unread x2) = x2 :=
  readAt_whole harg3 x2 _ (by decide) _
theorem whole3 : View.readAt (Elt Ideal) arg4.view (Rect.unit ![0, 0, 0, 0] S1x32x2x128.size inb_S1x32x2x128_S1x32x2x128_0_0_0_0).toLoadRect (harg4.unread x3) = x3 :=
  readAt_whole harg4 x3 _ (by decide) _

/-! The values the run names, as the quantiser's. -/

theorem r8_at (s : Fin 32) : kernelRun0_A.sl.r_8 (F := Ideal) c arg3 harg3 x2 (ix2 s 0) = kscale (ratio (row 0 x2 s)) := by
  unfold kernelRun0_A.sl.r_8 kernelRun0_A.sl.r_6 kernelRun0_A.sl.r_7
  rw [whole2 arg3 harg3 x2]; exact pay18_at x2 s
theorem r9_at (s : Fin 32) (d : Fin 128) : kernelRun0_A.sl.r_9 (F := Ideal) c arg3 harg3 x2 (ix2 s d) = kcode (row 0 x2 s) d := by
  unfold kernelRun0_A.sl.r_9 kernelRun0_A.sl.r_5 kernelRun0_A.sl.r_6 kernelRun0_A.sl.r_7
  rw [whole2 arg3 harg3 x2]; exact pay19_at x2 s d
theorem r13_at (s : Fin 32) : kernelRun0_A.sl.r_13 (F := Ideal) c arg4 harg4 x3 (ix2 s 0) = kscale (ratio (row 0 x3 s)) := by
  unfold kernelRun0_A.sl.r_13 kernelRun0_A.sl.r_11 kernelRun0_A.sl.r_12 kernelRun0_A.sl.r_3
  rw [whole3 arg4 harg4 x3]; exact pay25_at x3 s
theorem r14_at (s : Fin 32) (d : Fin 128) : kernelRun0_A.sl.r_14 (F := Ideal) c arg4 harg4 x3 (ix2 s d) = kcode (row 0 x3 s) d := by
  unfold kernelRun0_A.sl.r_14 kernelRun0_A.sl.r_10 kernelRun0_A.sl.r_11 kernelRun0_A.sl.r_12 kernelRun0_A.sl.r_3
  rw [whole3 arg4 harg4 x3]; exact pay26_at x3 s d
theorem r21_at (s : Fin 32) : kernelRun0_A.sl.r_21 (F := Ideal) c arg3 harg3 x2 (ix2 s 0) = kscale (ratio (row 1 x2 s)) := by
  unfold kernelRun0_A.sl.r_21 kernelRun0_A.sl.r_20 kernelRun0_A.sl.r_2
  rw [whole2 arg3 harg3 x2]; exact pay48_at x2 s
theorem r22_at (s : Fin 32) (d : Fin 128) : kernelRun0_A.sl.r_22 (F := Ideal) c arg3 harg3 x2 (ix2 s d) = kcode (row 1 x2 s) d := by
  unfold kernelRun0_A.sl.r_22 kernelRun0_A.sl.r_19 kernelRun0_A.sl.r_20 kernelRun0_A.sl.r_2
  rw [whole2 arg3 harg3 x2]; exact pay49_at x2 s d
theorem r26_at (s : Fin 32) : kernelRun0_A.sl.r_26 (F := Ideal) c arg4 harg4 x3 (ix2 s 0) = kscale (ratio (row 1 x3 s)) := by
  unfold kernelRun0_A.sl.r_26 kernelRun0_A.sl.r_24 kernelRun0_A.sl.r_25 kernelRun0_A.sl.r_4
  rw [whole3 arg4 harg4 x3]; exact pay57_at x3 s
theorem r27_at (s : Fin 32) (d : Fin 128) : kernelRun0_A.sl.r_27 (F := Ideal) c arg4 harg4 x3 (ix2 s d) = kcode (row 1 x3 s) d := by
  unfold kernelRun0_A.sl.r_27 kernelRun0_A.sl.r_23 kernelRun0_A.sl.r_24 kernelRun0_A.sl.r_25 kernelRun0_A.sl.r_4
  rw [whole3 arg4 harg4 x3]; exact pay58_at x3 s d
theorem s60_at (s : Fin 32) (d : Fin 128) : k0_pay60 (F := Ideal) (kernelRun0_A.sl.r_23 c arg4 harg4 x3) (kernelRun0_A.sl.r_24 c arg4 harg4 x3) (kernelRun0_A.sl.r_25 c arg4 harg4 x3) k0_pay55 (ix4 0 0 s d) = kcode (row 1 x3 s) d := by
  unfold kernelRun0_A.sl.r_23 kernelRun0_A.sl.r_24 kernelRun0_A.sl.r_25 kernelRun0_A.sl.r_4
  rw [whole3 arg4 harg4 x3]; exact pay60_at x3 s d
theorem s28_at (s : Fin 32) (d : Fin 128) : k0_pay28 (F := Ideal) (kernelRun0_A.sl.r_10 c arg4 harg4 x3) (kernelRun0_A.sl.r_11 c arg4 harg4 x3) (kernelRun0_A.sl.r_12 c arg4 harg4 x3) 255#32 (ix4 0 0 s d) = kcode (row 0 x3 s) d := by
  unfold kernelRun0_A.sl.r_10 kernelRun0_A.sl.r_11 kernelRun0_A.sl.r_12 kernelRun0_A.sl.r_3
  rw [whole3 arg4 harg4 x3]; exact pay28_at x3 s d
theorem s62_at (s : Fin 32) : k0_pay62 (F := Ideal) (kernelRun0_A.sl.r_24 c arg4 harg4 x3) (kernelRun0_A.sl.r_25 c arg4 harg4 x3) k0_pay55 (ix4 0 0 s 0) = kscale (ratio (row 1 x3 s)) := by
  unfold kernelRun0_A.sl.r_24 kernelRun0_A.sl.r_25 kernelRun0_A.sl.r_4
  rw [whole3 arg4 harg4 x3]; exact pay62_at x3 s

/-- Output 10: `codes` of the point's block. -/
theorem out10 : out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1 = codes x2 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1)]
  funext y
  refine View.canon_apply_of_pieces (codes x2) _ ?_ y (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1 y)
  have hL : (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).2.1 = kernelRun0_A.sl.H10_2 c arg3 harg3 x2 := by
    unfold kernelRun0_A; rfl
  rw [hL]
  intro p hp
  simp only [kernelRun0_A.sl.H10_2, List.mem_cons, List.not_mem_nil, or_false] at hp
  rcases hp with rfl | rfl
  · intro (x : S1x1x32x128.Idx)
    obtain ⟨s, d, rfl⟩ := exists_ix4 x
    exact ((pay59_at _ _ _).trans (r22_at c arg3 harg3 x2 _ _)).trans (congrArg (codes x2) (emb_head (n := 128) 1 inb_S1x2x32x128_S1x1x32x128_0_1_0_0 s d)).symm
  · intro (x : S1x1x32x128.Idx)
    obtain ⟨s, d, rfl⟩ := exists_ix4 x
    exact ((pay27_at _ _ _).trans (r9_at c arg3 harg3 x2 _ _)).trans (congrArg (codes x2) (emb_head (n := 128) 0 inb_S1x2x32x128_S1x1x32x128_0_0_0_0 s d)).symm

/-- Output 11: `scales` of the point's block. -/
theorem out11 : out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1 = scales x2 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1)]
  funext y
  refine View.canon_apply_of_pieces (scales x2) _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1 y)
  have hL : (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).2.2.1 = kernelRun0_A.sl.H11_2 c arg3 harg3 x2 := by
    unfold kernelRun0_A; rfl
  rw [hL]
  intro p hp
  simp only [kernelRun0_A.sl.H11_2, List.mem_cons, List.not_mem_nil, or_false] at hp
  rcases hp with rfl | rfl
  · intro (x : S1x1x32x1.Idx)
    obtain ⟨s, rfl⟩ := exists_ix4_one x
    exact ((pay61_at _ _).trans (r21_at c arg3 harg3 x2 _)).trans (congrArg (scales x2) (emb_head (n := 1) 1 inb_S1x2x32x1_S1x1x32x1_0_1_0_0 s 0)).symm
  · intro (x : S1x1x32x1.Idx)
    obtain ⟨s, rfl⟩ := exists_ix4_one x
    exact ((pay29_at _ _).trans (r8_at c arg3 harg3 x2 _)).trans (congrArg (scales x2) (emb_head (n := 1) 0 inb_S1x2x32x1_S1x1x32x1_0_0_0_0 s 0)).symm

/-- Output 12: `codes` of the point's block. -/
theorem out12 : out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1 = codes x3 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1)]
  funext y
  refine View.canon_apply_of_pieces (codes x3) _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1 y)
  have hL : (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).2.2.2.1 = kernelRun0_A.sl.H12_2 c arg4 harg4 x3 := by
    unfold kernelRun0_A; rfl
  rw [hL]
  intro p hp
  simp only [kernelRun0_A.sl.H12_2, List.mem_cons, List.not_mem_nil, or_false] at hp
  rcases hp with rfl | rfl
  · intro (x : S1x1x32x128.Idx)
    obtain ⟨s, d, rfl⟩ := exists_ix4 x
    exact (s60_at c arg4 harg4 x3 _ _).trans (congrArg (codes x3) (emb_head (n := 128) 1 inb_S1x2x32x128_S1x1x32x128_0_1_0_0 s d)).symm
  · intro (x : S1x1x32x128.Idx)
    obtain ⟨s, d, rfl⟩ := exists_ix4 x
    exact (s28_at c arg4 harg4 x3 _ _).trans (congrArg (codes x3) (emb_head (n := 128) 0 inb_S1x2x32x128_S1x1x32x128_0_0_0_0 s d)).symm

/-- Output 13: `scales` of the point's block. -/
theorem out13 : out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1 = scales x3 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1)]
  funext y
  refine View.canon_apply_of_pieces (scales x3) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1 y)
  have hL : (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1).2.2.2.2.1 = kernelRun0_A.sl.H13_2 c arg4 harg4 x3 := by
    unfold kernelRun0_A; rfl
  rw [hL]
  intro p hp
  simp only [kernelRun0_A.sl.H13_2, List.mem_cons, List.not_mem_nil, or_false] at hp
  rcases hp with rfl | rfl
  · intro (x : S1x1x32x1.Idx)
    obtain ⟨s, rfl⟩ := exists_ix4_one x
    exact (s62_at c arg4 harg4 x3 _).trans (congrArg (scales x3) (emb_head (n := 1) 1 inb_S1x2x32x1_S1x1x32x1_0_1_0_0 s 0)).symm
  · intro (x : S1x1x32x1.Idx)
    obtain ⟨s, rfl⟩ := exists_ix4_one x
    exact ((pay30_at _ _).trans (r13_at c arg4 harg4 x3 _)).trans (congrArg (scales x3) (emb_head (n := 1) 0 inb_S1x2x32x1_S1x1x32x1_0_0_0_0 s 0)).symm

end Pieces

end Cert.KernelIdeal.Out
-- ==== Proof.KernelIdealAttend.lean ====
/-
  What one grid point leaves in the block of the attention output, entry by entry: the attention of each query row over the
  cache and the new tokens of the point's sequence.
-/
module

public import proofs.«01_k».proof.Proof.KernelIdealHead0
public import proofs.«01_k».proof.Proof.KernelIdealHead1
public import proofs.«01_k».proof.Proof.KernelIdealOut

@[expose] public section

set_option maxRecDepth 16384
set_option maxHeartbeats 1000000

noncomputable section

namespace Cert.KernelIdeal.Out

open Cert.KernelIdeal Cert.KernelIdeal.Gen Cert.KernelIdeal.Run Cert.KernelIdeal.Pay Cert.KernelIdeal.Loop Cert.Quant Cert.Softmax
open Idealize.ShloMosaic Idealize.ShloMosaic.TcCoe Idealize.ShloMosaic.Tactic

/-- Query `g` of the group of head `h`, among all query heads. -/
def qhead (h : Fin 2) (g : Fin 16) : Fin 32 := ⟨16 * h.val + g.val, by omega⟩

/-- The attention of query `g` of head `h` at token `s`, entry `d`, from the blocks of one sequence. -/
def attnAt (n : BitVec 32) (x1 : Vec Ideal S1x32x32x128 .bf16) (x2 x3 : Vec Ideal S1x32x2x128 .bf16) (x4 : Vec Ideal S1x2x2048x128 .fp8e4m3) (x5 : Vec Ideal S1x2x2048 .f32)
    (x6 : Vec Ideal S1x2x2048x128 .fp8e4m3) (x7 : Vec Ideal S1x2x2048 .f32) (x8 : Vec Ideal S32x512 .f32) (s : Fin 32) (h : Fin 2) (g : Fin 16) (d : Fin 128) : EReal :=
  attend (fun t => cs n h x4 x5 (fun e => x1 (ix4 0 s (qhead h g) e)) t) (fun t => cv h x6 x7 d t)
    (fun j => (∑ e, kcode (row h x2 j) e * kscale (ratio (row h x2 j)) * x1 (ix4 0 s (qhead h g) e)) * sm + x8 (ix2 j (qrow s g)))
    (fun j => kcode (row h x3 j) d * kscale (ratio (row h x3 j)))

/-- The block of attention outputs. -/
def attn (n : BitVec 32) (x1 : Vec Ideal S1x32x32x128 .bf16) (x2 x3 : Vec Ideal S1x32x2x128 .bf16) (x4 : Vec Ideal S1x2x2048x128 .fp8e4m3) (x5 : Vec Ideal S1x2x2048 .f32)
    (x6 : Vec Ideal S1x2x2048x128 .fp8e4m3) (x7 : Vec Ideal S1x2x2048 .f32) (x8 : Vec Ideal S32x512 .f32) : FVec Ideal S1x32x32x128 .bf16 := fun y =>
  attnAt n x1 x2 x3 x4 x5 x6 x7 x8 (y 1) ⟨(y 2).val / 16, by have : (y 2).val < 32 := (y 2).isLt; omega⟩ ⟨(y 2).val % 16, Nat.mod_lt _ (by norm_num)⟩ (y 3)

theorem attn_at (n : BitVec 32) (x1 : Vec Ideal S1x32x32x128 .bf16) (x2 x3 : Vec Ideal S1x32x2x128 .bf16) (x4 : Vec Ideal S1x2x2048x128 .fp8e4m3) (x5 : Vec Ideal S1x2x2048 .f32)
    (x6 : Vec Ideal S1x2x2048x128 .fp8e4m3) (x7 : Vec Ideal S1x2x2048 .f32) (x8 : Vec Ideal S32x512 .f32) (b : Fin 1) (s : Fin 32) (h : Fin 2) (g : Fin 16) (d : Fin 128) :
    attn n x1 x2 x3 x4 x5 x6 x7 x8 (ix4 b s (qhead h g) d) = attnAt n x1 x2 x3 x4 x5 x6 x7 x8 s h g d := by
  unfold attn
  have e1 : (⟨(qhead h g).val / 16, by have : (qhead h g).val < 32 := (qhead h g).isLt; omega⟩ : Fin 2) = h := Fin.ext (by show (16 * h.val + g.val) / 16 = h.val; omega)
  have e2 : (⟨(qhead h g).val % 16, Nat.mod_lt _ (by norm_num)⟩ : Fin 16) = g := Fin.ext (by show (16 * h.val + g.val) % 16 = g.val; omega)
  exact congrArg₂ (fun a b => attnAt n x1 x2 x3 x4 x5 x6 x7 x8 s a b d) e1 e2

/-- A block of the queries of one head, read from the block of all. -/
theorem query_at {M : Memref sig .tc .vmem S1x32x32x128 .bf16} (hM : M.IsWhole) (X : Vec Ideal S1x32x32x128 .bf16) (h : Fin 2) (off : Fin 4 → Nat)
    (ho : off = ![0, 0, 16 * h.val, 0]) (inb : ∀ a, off a + S1x32x16x128.size a ≤ S1x32x32x128.size a) (s : Fin 32) (g : Fin 16) (d : Fin 128) :
    M.view.readAt (Elt Ideal) (Rect.unit (s := S1x32x32x128) off S1x32x16x128.size inb).toLoadRect (hM.unread X) (ix4 0 s g d) = X (ix4 0 s (qhead h g) d) := by
  subst ho
  rw [hM.readAt_unread]
  congr 1
  funext a
  apply Fin.ext
  show (![0, 0, 16 * h.val, 0] : Fin 4 → Nat) a + 1 * ((ix4 0 s g d : S1x32x16x128.Idx) a).val = _
  match a with
  | ⟨0, _⟩ => rfl
  | ⟨1, _⟩ => show 0 + 1 * s.val = s.val; omega
  | ⟨2, _⟩ => show 16 * h.val + 1 * g.val = 16 * h.val + g.val; omega
  | ⟨3, _⟩ => show 0 + 1 * d.val = d.val; omega

/-- An index of the queries of one head of one sequence. -/
theorem exists_q (x : S1x32x16x128.Idx) : ∃ (s : Fin 32) (g : Fin 16) (d : Fin 128), x = ix4 0 s g d := by
  refine ⟨x 1, x 2, x 3, ?_⟩
  conv_lhs => rw [eq_ix4 x]
  congr 1
  exact Fin.ext (by have : (x 0).val < 1 := (x 0).isLt; show (x 0).val = 0; omega)

/-- Where the queries of head `h` sit in the block of all. -/
theorem emb_q (h : Fin 2) (off : Fin 4 → Nat) (ho : off = ![0, 0, 16 * h.val, 0]) (inb) (s : Fin 32) (g : Fin 16) (d : Fin 128) :
    (Rect.unit (s := S1x32x32x128) off S1x32x16x128.size inb).emb (ix4 0 s g d) = ix4 0 s (qhead h g) d := by
  subst ho
  funext a
  apply Fin.ext
  show (![0, 0, 16 * h.val, 0] : Fin 4 → Nat) a + 1 * ((ix4 0 s g d : S1x32x16x128.Idx) a).val = _
  match a with
  | ⟨0, _⟩ => rfl
  | ⟨1, _⟩ => show 0 + 1 * s.val = s.val; omega
  | ⟨2, _⟩ => show 16 * h.val + 1 * g.val = 16 * h.val + g.val; omega
  | ⟨3, _⟩ => show 0 + 1 * d.val = d.val; omega

section Pieces

variable (c : Dev nD) (i : grid0.Coords) (arg1 : Memref sig .tc .smem S64 .i32) (harg1 : arg1.IsWhole) (arg2 : Memref sig .tc .vmem S1x32x32x128 .bf16) (harg2 : arg2.IsWhole) (arg3 : Memref sig .tc .vmem S1x32x2x128 .bf16) (harg3 : arg3.IsWhole) (arg4 : Memref sig .tc .vmem S1x32x2x128 .bf16) (harg4 : arg4.IsWhole) (arg5 : Memref sig .tc .vmem S1x2x2048x128 .fp8e4m3) (harg5 : arg5.IsWhole) (arg6 : Memref sig .tc .vmem S1x2x2048 .f32) (harg6 : arg6.IsWhole) (arg7 : Memref sig .tc .vmem S1x2x2048x128 .fp8e4m3) (harg7 : arg7.IsWhole) (arg8 : Memref sig .tc .vmem S1x2x2048 .f32) (harg8 : arg8.IsWhole) (arg9 : Memref sig .tc .vmem S32x512 .f32) (harg9 : arg9.IsWhole) (arg10 : Memref sig .tc .vmem S1x32x32x128 .bf16) (harg10 : arg10.IsWhole) (arg11 : Memref sig .tc .vmem S1x2x32x128 .fp8e4m3) (harg11 : arg11.IsWhole) (arg12 : Memref sig .tc .vmem S1x2x32x1 .f32) (harg12 : arg12.IsWhole) (arg13 : Memref sig .tc .vmem S1x2x32x128 .fp8e4m3) (harg13 : arg13.IsWhole) (arg14 : Memref sig .tc .vmem S1x2x32x1 .f32) (harg14 : arg14.IsWhole)
  (x0 : Vec Ideal S64 .i32) (x1 : Vec Ideal S1x32x32x128 .bf16) (x2 : Vec Ideal S1x32x2x128 .bf16) (x3 : Vec Ideal S1x32x2x128 .bf16) (x4 : Vec Ideal S1x2x2048x128 .fp8e4m3) (x5 : Vec Ideal S1x2x2048 .f32) (x6 : Vec Ideal S1x2x2048x128 .fp8e4m3) (x7 : Vec Ideal S1x2x2048 .f32) (x8 : Vec Ideal S32x512 .f32) (k0_hw1 : k0_chk1 (arg1.view.readAt (Elt Ideal) (Rect.unit (s := S64) (k0_off1 i) S1.size (k0_off1_inb i)).toLoadRect (harg1.unread x0) (Shape.Idx.first (numel1_S1.symm ▸ Nat.one_pos))))

/-- The length of the sequence, as the point reads it. -/
abbrev len : BitVec 32 := arg1.view.readAt (Elt Ideal) (Rect.unit (s := S64) (k0_off1 i) S1.size (k0_off1_inb i)).toLoadRect (harg1.unread x0) (Shape.Idx.first (numel1_S1.symm ▸ Nat.one_pos))

theorem r1_at (j : Fin 32) (r : Fin 512) : kernelRun0_A.sl.r_1 (F := Ideal) c arg9 harg9 x8 (ix2 j r) = x8 (ix2 j r) := by
  unfold kernelRun0_A.sl.r_1
  rw [pay8_at]
  exact congrFun (readAt_whole harg9 x8 _ (by decide) _) _

/-- Output 9: the attention of the point's blocks. -/
theorem out9 (hn : (len i arg1 harg1 x0).toInt ≤ 2048) : out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1 = attn (len i arg1 harg1 x0) x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1)]
  have hn' : (kernelRun0_A.sl.r (F := Ideal) c i arg1 harg1 x0).toInt ≤ 2048 := hn
  funext y
  refine View.canon_apply_of_pieces (attn (len i arg1 harg1 x0) x1 x2 x3 x4 x5 x6 x7 x8) _ ?_ y (cover0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 k0_hw1 y)
  unfold kernelRun0_A
  dsimp only
  intro p hp
  simp only [List.mem_cons, List.not_mem_nil, or_false] at hp
  rcases hp with rfl | rfl
  · intro (x : S1x32x16x128.Idx)
    obtain ⟨s, g, d, rfl⟩ := exists_q x
    clear y
    refine Eq.trans ((congrFun (congrFun pay3_eq _) _).trans (pay45_at s g d _)) (Eq.trans ?_ (congrArg (attn _ x1 x2 x3 x4 x5 x6 x7 x8) (emb_q 1 ![0, 0, 16, 0] rfl inb_S1x32x32x128_S1x32x16x128_0_0_16_0 s g d)).symm)
    rw [attn_at]
    unfold kernelRun0_A.sl.r_31 kernelRun0_A.sl.r_30 kernelRun0_A.sl.r_29 kernelRun0_A.sl.r_28
    generalize_proofs
    have z1 : Scf.trips (k0_t5_loop (kernelRun0_A.sl.r (F := Ideal) c i arg1 harg1 x0)).lb (k0_t5_loop (kernelRun0_A.sl.r (F := Ideal) c i arg1 harg1 x0)).ub (k0_t5_loop (kernelRun0_A.sl.r (F := Ideal) c i arg1 harg1 x0)).st = Chunks.num (kernelRun0_A.sl.r (F := Ideal) c i arg1 harg1 x0) := trips_eq _
    have z2 : Scf.trips (k0_t6_loop (kernelRun0_A.sl.r (F := Ideal) c i arg1 harg1 x0)).lb (k0_t6_loop (kernelRun0_A.sl.r (F := Ideal) c i arg1 harg1 x0)).ub (k0_t6_loop (kernelRun0_A.sl.r (F := Ideal) c i arg1 harg1 x0)).st = 0 := trips_rest _
    have z3 : Scf.trips (k0_t7_loop (kernelRun0_A.sl.r (F := Ideal) c i arg1 harg1 x0)).lb (k0_t7_loop (kernelRun0_A.sl.r (F := Ideal) c i arg1 harg1 x0)).ub (k0_t7_loop (kernelRun0_A.sl.r (F := Ideal) c i arg1 harg1 x0)).st = Chunks.num (kernelRun0_A.sl.r (F := Ideal) c i arg1 harg1 x0) := trips_eq _
    have z4 : Scf.trips (k0_t8_loop (kernelRun0_A.sl.r (F := Ideal) c i arg1 harg1 x0)).lb (k0_t8_loop (kernelRun0_A.sl.r (F := Ideal) c i arg1 harg1 x0)).ub (k0_t8_loop (kernelRun0_A.sl.r (F := Ideal) c i arg1 harg1 x0)).st = 0 := trips_rest _
    simp only [z4, st_k0_t8_zero, z3, z2, st_k0_t6_zero, z1]
    rw [← stats1_def, ← total1_def, total1_eq (hn := hn')]
    have hq : ∀ e, k0_pay31 (F := Ideal) (View.readAt (Elt Ideal) arg2.view (Rect.unit (s := S1x32x32x128) ![0, 0, 16, 0] S1x32x16x128.size inb_S1x32x32x128_S1x32x16x128_0_0_16_0).toLoadRect (harg2.unread x1)) (ix2 (qrow s g) e) = x1 (ix4 0 s (qhead 1 g) e) :=
      fun e => (pay31_at _ s g e).trans (query_at harg2 x1 1 _ rfl _ s g e)
    simp only [hq, pay32_at, r27_at, r26_at, r21_at, r22_at, r1_at]
    rfl
  · intro (x : S1x32x16x128.Idx)
    obtain ⟨s, g, d, rfl⟩ := exists_q x
    clear y
    refine Eq.trans (pay45_at s g d _) (Eq.trans ?_ (congrArg (attn _ x1 x2 x3 x4 x5 x6 x7 x8) (emb_q 0 ![0, 0, 0, 0] rfl inb_S1x32x32x128_S1x32x16x128_0_0_0_0 s g d)).symm)
    rw [attn_at]
    unfold kernelRun0_A.sl.r_18 kernelRun0_A.sl.r_17 kernelRun0_A.sl.r_16 kernelRun0_A.sl.r_15
    generalize_proofs
    have z1 : Scf.trips (k0_t1_loop (kernelRun0_A.sl.r (F := Ideal) c i arg1 harg1 x0)).lb (k0_t1_loop (kernelRun0_A.sl.r (F := Ideal) c i arg1 harg1 x0)).ub (k0_t1_loop (kernelRun0_A.sl.r (F := Ideal) c i arg1 harg1 x0)).st = Chunks.num (kernelRun0_A.sl.r (F := Ideal) c i arg1 harg1 x0) := trips_eq _
    have z2 : Scf.trips (k0_t2_loop (kernelRun0_A.sl.r (F := Ideal) c i arg1 harg1 x0)).lb (k0_t2_loop (kernelRun0_A.sl.r (F := Ideal) c i arg1 harg1 x0)).ub (k0_t2_loop (kernelRun0_A.sl.r (F := Ideal) c i arg1 harg1 x0)).st = 0 := trips_rest _
    have z3 : Scf.trips (k0_t3_loop (kernelRun0_A.sl.r (F := Ideal) c i arg1 harg1 x0)).lb (k0_t3_loop (kernelRun0_A.sl.r (F := Ideal) c i arg1 harg1 x0)).ub (k0_t3_loop (kernelRun0_A.sl.r (F := Ideal) c i arg1 harg1 x0)).st = Chunks.num (kernelRun0_A.sl.r (F := Ideal) c i arg1 harg1 x0) := trips_eq _
    have z4 : Scf.trips (k0_t4_loop (kernelRun0_A.sl.r (F := Ideal) c i arg1 harg1 x0)).lb (k0_t4_loop (kernelRun0_A.sl.r (F := Ideal) c i arg1 harg1 x0)).ub (k0_t4_loop (kernelRun0_A.sl.r (F := Ideal) c i arg1 harg1 x0)).st = 0 := trips_rest _
    simp only [z4, st_k0_t4_zero, z3, z2, st_k0_t2_zero, z1]
    rw [← stats0_def, ← total0_def, total0_eq (hn := hn')]
    have hq : ∀ e, k0_pay31 (F := Ideal) (View.readAt (Elt Ideal) arg2.view (Rect.unit (s := S1x32x32x128) ![0, 0, 0, 0] S1x32x16x128.size inb_S1x32x32x128_S1x32x16x128_0_0_0_0).toLoadRect (harg2.unread x1)) (ix2 (qrow s g) e) = x1 (ix4 0 s (qhead 0 g) e) :=
      fun e => (pay31_at _ s g e).trans (query_at harg2 x1 0 _ rfl _ s g e)
    simp only [hq, pay32_at, r14_at, r13_at, r8_at, r9_at, r1_at]
    rfl

end Pieces

end Cert.KernelIdeal.Out
-- ==== Proof.KernelIdealArrays.lean ====
/-
  The kernel's four quantiser arrays after the region, and the four results its host operations make of them, entry by
  entry: the codes and the scales of the rows of the new keys and values.
-/
module

public import proofs.«01_k».proof.Proof.KernelIdealOut

@[expose] public section

set_option maxRecDepth 16384
set_option maxHeartbeats 1000000

noncomputable section

namespace Cert.KernelIdeal.Arrays

open Cert.KernelIdeal Cert.KernelIdeal.Gen Cert.KernelIdeal.Run Cert.KernelIdeal.Pay Cert.KernelIdeal.Out Cert.Quant
open Idealize.ShloMosaic Idealize.ShloMosaic.TcCoe Idealize.ShloMosaic.Tactic

/-- The row of token `s` of head `h` of sequence `b`. -/
abbrev arow (v : FVec Ideal S64x32x2x128 .bf16) (b : Fin 64) (s : Fin 32) (h : Fin 2) : Fin 128 → EReal := fun d => v (ix4 b s h d)

/-- The codes and the scales of all rows, head before token. -/
def acodes (v : FVec Ideal S64x32x2x128 .bf16) : FVec Ideal S64x2x32x128 .fp8e4m3 := fun y => kcode (arow v (y 0) (y 2) (y 1)) (y 3)
def ascales (v : FVec Ideal S64x32x2x128 .bf16) : FVec Ideal S64x2x32x1 .f32 := fun y => kscale (ratio (arow v (y 0) (y 2) (y 1)))

/-- The same, token before head. -/
def tcodes (v : FVec Ideal S64x32x2x128 .bf16) : FVec Ideal S64x32x2x128 .fp8e4m3 := fun y => kcode (arow v (y 0) (y 1) (y 2)) (y 3)
def tscales (v : FVec Ideal S64x32x2x128 .bf16) : FVec Ideal S64x32x2 .f32 := fun y => kscale (ratio (arow v (y 0) (y 1) (y 2)))

variable (m : (ℓ : Loc nD τ sig) → Buf (Elt Ideal) ℓ) (hH : Hyps m) (c : Dev nD)

theorem i2 : ∀ t : Fin cfg0.N, win0_2.index t = ![(grid0.coords t 0).val, 0, 0, 0] := (by decide +kernel : ∀ t : Fin grid0.N, _)
theorem i3 : ∀ t : Fin cfg0.N, win0_3.index t = ![(grid0.coords t 0).val, 0, 0, 0] := (by decide +kernel : ∀ t : Fin grid0.N, _)
theorem i10 : ∀ t : Fin cfg0.N, win0_10.index t = ![(grid0.coords t 0).val, 0, 0, 0] := (by decide +kernel : ∀ t : Fin grid0.N, _)
theorem i12 : ∀ t : Fin cfg0.N, win0_12.index t = ![(grid0.coords t 0).val, 0, 0, 0] := (by decide +kernel : ∀ t : Fin grid0.N, _)
theorem i13 : ∀ t : Fin cfg0.N, win0_13.index t = ![(grid0.coords t 0).val, 0, 0, 0] := (by decide +kernel : ∀ t : Fin grid0.N, _)
theorem i11 : ∀ t : Fin cfg0.N, win0_11.index t = ![(grid0.coords t 0).val, 0, 0, 0] := (by decide +kernel : ∀ t : Fin grid0.N, _)

theorem arr10 : (dats m hH 0 c).arrAt 10 cfg0.N = acodes (m ((c : Thread nD τ).loc main_arg1)) := by
  refine (dats m hH 0 c).arrAt_eq_of_covers 10 _ (by decide +kernel) fun t hf y => ?_
  blk_simp
  rw [after0_10]
  unfold outsAt0
  dsimp only
  rw [out10]
  unfold codes acodes row arow
  have e : ∀ d : Fin 128, iblk m c 2 t (ix4 0 (y 2) (y 1) d) = m ((c : Thread nD τ).loc main_arg1)
      (ix4 ((win0_10.blk t).view.emb y 0) ((win0_10.blk t).view.emb y 2) ((win0_10.blk t).view.emb y 1) d) := by
    intro d
    blk_simp [iblk]
    blk_ext [i2 t, i10 t]
  refine congrArg₂ kcode (funext e) (Fin.ext ?_)
  exact (Pipeline.Window.rect_emb_val_of_index_zero win0_10 t 3 (by rw [i10 t]; rfl) y).symm

theorem arr11 : (dats m hH 0 c).arrAt 11 cfg0.N = ascales (m ((c : Thread nD τ).loc main_arg1)) := by
  refine (dats m hH 0 c).arrAt_eq_of_covers 11 _ (by decide +kernel) fun t hf y => ?_
  blk_simp
  rw [after0_11]
  unfold outsAt0
  dsimp only
  rw [out11]
  unfold scales ascales row arow
  congr 2
  funext d
  blk_simp [iblk]
  blk_ext [i2 t, i11 t]

theorem arr12 : (dats m hH 0 c).arrAt 12 cfg0.N = acodes (m ((c : Thread nD τ).loc main_arg2)) := by
  refine (dats m hH 0 c).arrAt_eq_of_covers 12 _ (by decide +kernel) fun t hf y => ?_
  blk_simp
  rw [after0_12]
  unfold outsAt0
  dsimp only
  rw [out12]
  unfold codes acodes row arow
  have e : ∀ d : Fin 128, iblk m c 3 t (ix4 0 (y 2) (y 1) d) = m ((c : Thread nD τ).loc main_arg2)
      (ix4 ((win0_12.blk t).view.emb y 0) ((win0_12.blk t).view.emb y 2) ((win0_12.blk t).view.emb y 1) d) := by
    intro d
    blk_simp [iblk]
    blk_ext [i3 t, i12 t]
  refine congrArg₂ kcode (funext e) (Fin.ext ?_)
  exact (Pipeline.Window.rect_emb_val_of_index_zero win0_12 t 3 (by rw [i12 t]; rfl) y).symm

theorem arr13 : (dats m hH 0 c).arrAt 13 cfg0.N = ascales (m ((c : Thread nD τ).loc main_arg2)) := by
  refine (dats m hH 0 c).arrAt_eq_of_covers 13 _ (by decide +kernel) fun t hf y => ?_
  blk_simp
  rw [after0_13]
  unfold outsAt0
  dsimp only
  rw [out13]
  unfold scales ascales row arow
  congr 2
  funext d
  blk_simp [iblk]
  blk_ext [i3 t, i13 t]

theorem res10 : Pipeline.afterTail₀ cfgs (dats m hH) 0 (V0 m) [hostOps1] c main_v10 = tcodes (m ((c : Thread nD τ).loc main_arg1)) := by
  show StableHlo.after _ _ _ = _
  simp only [hostOps1, List.flatten_cons, List.flatten_nil, List.append_nil]
  after_results_simp
  have e : (dats m hH 0 c).arrAt 10 (cfgs 0).N = acodes (m ((c : Thread nD τ).loc main_arg1)) := arr10 m hH c
  have e2 := Pipeline.withArrays_arr (cfgs 0).spec launch0.win.arr_inj c (V0 m c) (fun w => (dats m hH 0 c).arrAt w (cfgs 0).N) 10
  have e3 := e2.trans e
  funext y
  rw [eq_ix4 y]
  pointwise
  exact congrFun e3 _

theorem res12 : Pipeline.afterTail₀ cfgs (dats m hH) 0 (V0 m) [hostOps1] c main_v12 = tscales (m ((c : Thread nD τ).loc main_arg1)) := by
  show StableHlo.after _ _ _ = _
  simp only [hostOps1, List.flatten_cons, List.flatten_nil, List.append_nil]
  after_results_simp
  have e : (dats m hH 0 c).arrAt 11 (cfgs 0).N = ascales (m ((c : Thread nD τ).loc main_arg1)) := arr11 m hH c
  have e2 := Pipeline.withArrays_arr (cfgs 0).spec launch0.win.arr_inj c (V0 m c) (fun w => (dats m hH 0 c).arrAt w (cfgs 0).N) 11
  have e3 := e2.trans e
  funext y
  rw [eq_ix3 y]
  pointwise
  exact congrFun e3 _

theorem res13 : Pipeline.afterTail₀ cfgs (dats m hH) 0 (V0 m) [hostOps1] c main_v13 = tcodes (m ((c : Thread nD τ).loc main_arg2)) := by
  show StableHlo.after _ _ _ = _
  simp only [hostOps1, List.flatten_cons, List.flatten_nil, List.append_nil]
  after_results_simp
  have e : (dats m hH 0 c).arrAt 12 (cfgs 0).N = acodes (m ((c : Thread nD τ).loc main_arg2)) := arr12 m hH c
  have e2 := Pipeline.withArrays_arr (cfgs 0).spec launch0.win.arr_inj c (V0 m c) (fun w => (dats m hH 0 c).arrAt w (cfgs 0).N) 12
  have e3 := e2.trans e
  funext y
  rw [eq_ix4 y]
  pointwise
  exact congrFun e3 _

theorem res15 : Pipeline.afterTail₀ cfgs (dats m hH) 0 (V0 m) [hostOps1] c main_v15 = tscales (m ((c : Thread nD τ).loc main_arg2)) := by
  show StableHlo.after _ _ _ = _
  simp only [hostOps1, List.flatten_cons, List.flatten_nil, List.append_nil]
  after_results_simp
  have e : (dats m hH 0 c).arrAt 13 (cfgs 0).N = ascales (m ((c : Thread nD τ).loc main_arg2)) := arr13 m hH c
  have e2 := Pipeline.withArrays_arr (cfgs 0).spec launch0.win.arr_inj c (V0 m c) (fun w => (dats m hH 0 c).arrAt w (cfgs 0).N) 13
  have e3 := e2.trans e
  funext y
  rw [eq_ix3 y]
  pointwise
  exact congrFun e3 _

end Cert.KernelIdeal.Arrays
-- ==== Proof.KernelIdealResult.lean ====
/-
  The kernel's attention output as one array: every entry is the attention of its query over the cached and the new rows.
-/
module

public import proofs.«01_k».proof.Proof.KernelIdealAttend
public import proofs.«01_k».proof.Proof.KernelIdealArrays
public import proofs.«01_k».proof.Proof.KernelIdealInRange

@[expose] public section

set_option maxRecDepth 16384
set_option maxHeartbeats 2000000

noncomputable section

namespace Cert.KernelIdeal.Result

open Cert.KernelIdeal.Loop Cert.KernelIdeal Cert.KernelIdeal.Gen Cert.KernelIdeal.Run Cert.KernelIdeal.Pay Cert.KernelIdeal.Out Cert.KernelIdeal.Arrays Cert.Quant Cert.Softmax
open Idealize.ShloMosaic Idealize.ShloMosaic.TcCoe Idealize.ShloMosaic.Tactic

/-- The attention of query head `16 h + g` of token `s` of sequence `b`, at column `d`. -/
def koutAt (a0 : FVec Ideal S64x32x32x128 .bf16) (a1 a2 : FVec Ideal S64x32x2x128 .bf16) (a3 : FVec Ideal S64x2048x2x128 .fp8e4m3) (a4 : FVec Ideal S64x2048x2 .f32)
    (a5 : FVec Ideal S64x2048x2x128 .fp8e4m3) (a6 : FVec Ideal S64x2048x2 .f32) (a7 : IVec S64 32) (a8 : IVec S32x32 1)
    (b : Fin 64) (s : Fin 32) (h : Fin 2) (g : Fin 16) (d : Fin 128) : EReal :=
  attend (fun t => Scalar.select (IntOp.cmpi .slt (BitVec.ofNat 32 t.val) (a7 (ix1 b)))
      ((∑ e, a3 (ix4 b t h e) * a4 (ix3 b t h) * a0 (ix4 b s (qhead h g) e)) * sm) ⊥)
    (fun t => a5 (ix4 b t h d) * a6 (ix3 b t h))
    (fun j => (∑ e, kcode (arow a1 b j h) e * kscale (ratio (arow a1 b j h)) * a0 (ix4 b s (qhead h g) e)) * sm
      + Scalar.select (a8 (ix2 s j)) (Ideal.ofBits FTy.f32 0#32) (Ideal.ofBits FTy.f32 4286578688#32))
    (fun j => kcode (arow a2 b j h) d * kscale (ratio (arow a2 b j h)))

/-- The whole array. -/
def kout (a0 : FVec Ideal S64x32x32x128 .bf16) (a1 a2 : FVec Ideal S64x32x2x128 .bf16) (a3 : FVec Ideal S64x2048x2x128 .fp8e4m3) (a4 : FVec Ideal S64x2048x2 .f32)
    (a5 : FVec Ideal S64x2048x2x128 .fp8e4m3) (a6 : FVec Ideal S64x2048x2 .f32) (a7 : IVec S64 32) (a8 : IVec S32x32 1) : FVec Ideal S64x32x32x128 .bf16 := fun y =>
  koutAt a0 a1 a2 a3 a4 a5 a6 a7 a8 (y 0) (y 1) ⟨(y 2).val / 16, by have : (y 2).val < 32 := (y 2).isLt; omega⟩ ⟨(y 2).val % 16, Nat.mod_lt _ (by norm_num)⟩ (y 3)

variable (m : (ℓ : Loc nD τ sig) → Buf (Elt Ideal) ℓ) (hH : Hyps m) (c : Dev nD)

/-! ## The arrays the region finds -/

theorem V_v0 : V m c main_v0 = transpose S64x2x2048x128 [0, 2, 1, 3] (m ((c : Thread nD τ).loc main_arg3)) transposes_S64x2048x2x128_S64x2x2048x128_0_2_1_3 := by
  show StableHlo.after _ _ _ = _
  simp only [hostOps0, hostOps0_1, hostOps0_2, List.flatten_cons, List.flatten_nil, List.append_nil, List.cons_append, List.nil_append]
  after_results_simp

theorem V_v1 : V m c main_v1 = transpose S64x2x2048x128 [0, 2, 1, 3] (m ((c : Thread nD τ).loc main_arg5)) transposes_S64x2048x2x128_S64x2x2048x128_0_2_1_3 := by
  show StableHlo.after _ _ _ = _
  simp only [hostOps0, hostOps0_1, hostOps0_2, List.flatten_cons, List.flatten_nil, List.append_nil, List.cons_append, List.nil_append]
  after_results_simp

theorem V_v2 : V m c main_v2 = transpose S64x2x2048 [0, 2, 1] (m ((c : Thread nD τ).loc main_arg4)) transposes_S64x2048x2_S64x2x2048_0_2_1 := by
  show StableHlo.after _ _ _ = _
  simp only [hostOps0, hostOps0_1, hostOps0_2, List.flatten_cons, List.flatten_nil, List.append_nil, List.cons_append, List.nil_append]
  after_results_simp

theorem V_v3 : V m c main_v3 = transpose S64x2x2048 [0, 2, 1] (m ((c : Thread nD τ).loc main_arg6)) transposes_S64x2048x2_S64x2x2048_0_2_1 := by
  show StableHlo.after _ _ _ = _
  simp only [hostOps0, hostOps0_1, hostOps0_2, List.flatten_cons, List.flatten_nil, List.append_nil, List.cons_append, List.nil_append]
  after_results_simp

/-- Which new tokens a token sees, repeated over the query heads. -/
def seen (a8 : IVec S32x32 1) : FVec Ideal S32x512 .f32 :=
  select (shapeCast _ (broadcastInDim S32x32x16 ![0, 1] bcast_S32x32_S32x32x16_0_1 (transpose S32x32 [1, 0] a8 transposes_S32x32_S32x32_1_0)) shapeCasts_S32x32x16_S32x512)
    (broadcastInDim S32x512 ![] bcast_S_S32x512 (constant S_ .f32 0x00000000#32)) (broadcastInDim S32x512 ![] bcast_S_S32x512 (constant S_ .f32 0xFF800000#32))

theorem V_v8 : V m c main_v8 = seen (m ((c : Thread nD τ).loc main_arg8)) := by
  show StableHlo.after _ _ _ = _
  simp only [hostOps0, hostOps0_1, hostOps0_2, List.flatten_cons, List.flatten_nil, List.append_nil, List.cons_append, List.nil_append]
  after_results_simp
  simp -implicitDefEqProofs only [StableHlo.TRef.toBuf, StableHlo.TRef.ofBuf, cast_cast, cast_eq]
  rfl

theorem seen_at (a8 : IVec S32x32 1) (j s : Fin 32) (g : Fin 16) : seen a8 (ix2 j (qrow s g))
    = Scalar.select (a8 (ix2 s j)) (Ideal.ofBits FTy.f32 0#32) (Ideal.ofBits FTy.f32 4286578688#32) := by
  pointwise [seen, qrow]

/-! ## The blocks at a point -/

theorem i0 : ∀ t : Fin cfg0.N, win0_0.index t = ![0] := (by decide +kernel : ∀ t : Fin grid0.N, _)
theorem i1 : ∀ t : Fin cfg0.N, win0_1.index t = ![(grid0.coords t 0).val, 0, 0, 0] := (by decide +kernel : ∀ t : Fin grid0.N, _)
theorem i4 : ∀ t : Fin cfg0.N, win0_4.index t = ![(grid0.coords t 0).val, 0, 0, 0] := (by decide +kernel : ∀ t : Fin grid0.N, _)
theorem i5 : ∀ t : Fin cfg0.N, win0_5.index t = ![(grid0.coords t 0).val, 0, 0] := (by decide +kernel : ∀ t : Fin grid0.N, _)
theorem i6 : ∀ t : Fin cfg0.N, win0_6.index t = ![(grid0.coords t 0).val, 0, 0, 0] := (by decide +kernel : ∀ t : Fin grid0.N, _)
theorem i7 : ∀ t : Fin cfg0.N, win0_7.index t = ![(grid0.coords t 0).val, 0, 0] := (by decide +kernel : ∀ t : Fin grid0.N, _)
theorem i8 : ∀ t : Fin cfg0.N, win0_8.index t = ![0, 0] := (by decide +kernel : ∀ t : Fin grid0.N, _)
theorem i9 : ∀ t : Fin cfg0.N, win0_9.index t = ![(grid0.coords t 0).val, 0, 0, 0] := (by decide +kernel : ∀ t : Fin grid0.N, _)
theorem o1 : ∀ t : Fin cfg0.N, k0_off1 (grid0.coords t) = ![(grid0.coords t 0).val] := (by decide +kernel : ∀ t : Fin grid0.N, _)

/-- The sequence of a point. -/
def seq (t : Fin cfg0.N) : Fin 64 := ⟨(grid0.coords t 0).val, (grid0.coords t 0).isLt⟩

variable (t : Fin cfg0.N)

theorem b1 (s q : Fin 32) (e : Fin 128) : iblk m c 1 t (ix4 0 s q e) = m ((c : Thread nD τ).loc main_arg0) (ix4 (seq t) s q e) := by
  blk_simp [iblk]
  blk_ext [i1 t, seq]

theorem b2 (s : Fin 32) (h : Fin 2) (e : Fin 128) : iblk m c 2 t (ix4 0 s h e) = m ((c : Thread nD τ).loc main_arg1) (ix4 (seq t) s h e) := by
  blk_simp [iblk]
  blk_ext [i2 t, seq]

theorem b3 (s : Fin 32) (h : Fin 2) (e : Fin 128) : iblk m c 3 t (ix4 0 s h e) = m ((c : Thread nD τ).loc main_arg2) (ix4 (seq t) s h e) := by
  blk_simp [iblk]
  blk_ext [i3 t, seq]

theorem b4 (h : Fin 2) (k : Fin 2048) (e : Fin 128) : iblk m c 4 t (ix4 0 h k e) = m ((c : Thread nD τ).loc main_arg3) (ix4 (seq t) k h e) := by
  have e1 : iblk m c 4 t (ix4 0 h k e) = V m c main_v0 (ix4 (seq t) h k e) := by
    unfold iblk
    rw [View.read_apply, cast_eq]
    show V m c main_v0 _ = _
    blk_ext [i4 t, seq]
  rw [e1, V_v0]
  pointwise

theorem b5 (h : Fin 2) (k : Fin 2048) : iblk m c 5 t (ix3 0 h k) = m ((c : Thread nD τ).loc main_arg4) (ix3 (seq t) k h) := by
  have e1 : iblk m c 5 t (ix3 0 h k) = V m c main_v2 (ix3 (seq t) h k) := by
    unfold iblk
    rw [View.read_apply, cast_eq]
    show V m c main_v2 _ = _
    blk_ext [i5 t, seq]
  rw [e1, V_v2]
  pointwise

theorem b6 (h : Fin 2) (k : Fin 2048) (e : Fin 128) : iblk m c 6 t (ix4 0 h k e) = m ((c : Thread nD τ).loc main_arg5) (ix4 (seq t) k h e) := by
  have e1 : iblk m c 6 t (ix4 0 h k e) = V m c main_v1 (ix4 (seq t) h k e) := by
    unfold iblk
    rw [View.read_apply, cast_eq]
    show V m c main_v1 _ = _
    blk_ext [i6 t, seq]
  rw [e1, V_v1]
  pointwise

theorem b7 (h : Fin 2) (k : Fin 2048) : iblk m c 7 t (ix3 0 h k) = m ((c : Thread nD τ).loc main_arg6) (ix3 (seq t) k h) := by
  have e1 : iblk m c 7 t (ix3 0 h k) = V m c main_v3 (ix3 (seq t) h k) := by
    unfold iblk
    rw [View.read_apply, cast_eq]
    show V m c main_v3 _ = _
    blk_ext [i7 t, seq]
  rw [e1, V_v3]
  pointwise

theorem b8 (j s : Fin 32) (g : Fin 16) : iblk m c 8 t (ix2 j (qrow s g))
    = Scalar.select (m ((c : Thread nD τ).loc main_arg8) (ix2 s j)) (Ideal.ofBits FTy.f32 0#32) (Ideal.ofBits FTy.f32 4286578688#32) := by
  have e1 : iblk m c 8 t (ix2 j (qrow s g)) = V m c main_v8 (ix2 j (qrow s g)) := by
    unfold iblk
    rw [View.read_apply, cast_eq]
    show V m c main_v8 _ = _
    blk_ext [i8 t]
  rw [e1, V_v8]
  exact seen_at _ j s g

theorem b0 : len (grid0.coords t) (ms0_0 t) (hs0_0 t) (iblk m c 0 t) = m ((c : Thread nD τ).loc main_arg7) (ix1 (seq t)) := by
  unfold len
  simp only [View.readAt_apply, Memref.IsWhole.read_unread]
  unfold iblk
  rw [View.read_apply, cast_eq]
  show V m c main_arg7 _ = _
  rw [V_main_arg7]
  blk_ext [i0 t, seq]
  show k0_off1 (grid0.coords t) 0 + 1 * 0 = _
  rw [o1 t]
  rfl

theorem blockAt (s : Fin 32) (h : Fin 2) (g : Fin 16) (d : Fin 128) :
    attnAt (len (grid0.coords t) (ms0_0 t) (hs0_0 t) (iblk m c 0 t)) (iblk m c 1 t) (iblk m c 2 t) (iblk m c 3 t) (iblk m c 4 t) (iblk m c 5 t) (iblk m c 6 t) (iblk m c 7 t) (iblk m c 8 t) s h g d
      = koutAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (seq t) s h g d := by
  unfold attnAt koutAt
  have r2 : ∀ j, row h (iblk m c 2 t) j = arow (m ((c : Thread nD τ).loc main_arg1)) (seq t) j h := fun j => funext fun e => b2 m c t j h e
  have r3 : ∀ j, row h (iblk m c 3 t) j = arow (m ((c : Thread nD τ).loc main_arg2)) (seq t) j h := fun j => funext fun e => b3 m c t j h e
  refine congr (congr (congr (congrArg attend (funext fun k => ?_)) (funext fun k => ?_)) (funext fun j => ?_)) (funext fun j => ?_)
  · unfold cs
    rw [dif_pos k.isLt]
    unfold score
    simp only [b0, b1, b4, b5]
  · unfold cv
    rw [dif_pos k.isLt]
    simp only [b6, b7]
  · simp only [r2, b1, b8]
  · simp only [r3]

/-- The kernel's attention array after the region. -/
theorem arr9 (hl : ∀ y, (m ((c : Thread nD τ).loc main_arg7) y).toInt ≤ 2048) : (dats m hH 0 c).arrAt 9 cfg0.N
    = kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m hH 0 c).arrAt_eq_of_covers 9 _ (by decide +kernel) fun t hf y => ?_
  blk_simp
  rw [after0_9]
  unfold outsAt0
  dsimp only
  rw [out9 (hn := by rw [b0]; exact hl _)]
  have e : (win0_9.blk t).view.emb y = ix4 (seq t) (y 1) (y 2) (y 3) := by
    blk_ext [i9 t, seq]
  refine Eq.trans ?_ (congrArg (kout _ _ _ _ _ _ _ _ _) e).symm
  exact blockAt m c t _ _ _ _

end Cert.KernelIdeal.Result
-- ==== Proof.KernelIdealFits.lean ====
/-
  Under `in_range` every row of the new keys and values is one that the quantiser serves.
-/
module

public import proofs.«01_k».proof.Proof.KernelIdealInRange
public import proofs.«01_k».proof.Proof.Quant
public import Idealize.ShloMosaic.Lib.Pointwise

@[expose] public section

set_option maxRecDepth 16384

noncomputable section

namespace Cert.KernelIdeal.Run

open Cert.KernelIdeal Cert.KernelIdeal.Gen Cert.Quant
open Idealize.ShloMosaic Idealize.ShloMosaic.TcCoe Idealize.ShloMosaic.Tactic

/-- What a set bit of `p or (q and r)` says. -/
theorem or_and_of_set (p q r : Bool) (h : IntOp.ori (BitVec.ofBool p) (IntOp.andi (BitVec.ofBool q) (BitVec.ofBool r)) = 1#1) :
    p = true ∨ (q = true ∧ r = true) := by
  revert h; cases p <;> cases q <;> cases r <;> decide

/-- The rows of the new keys. -/
theorem fits1 [hP : Cert.Pre_in_range.Facts] (m : (ℓ : Loc nD τ sig) → Buf (Elt Ideal) ℓ) (h : Cert.Pre_KernelIdeal_in_range m) (c : Dev nD) (b : Fin 64) (s : Fin 32) (hd : Fin 2) :
    Fits (fun d => (m ((c : Thread nD τ).loc main_arg1) : FVec Ideal S64x32x2x128 .bf16) (ix4 b s hd d)) := by
  have e := congrFun (h c) (Shape.Idx.first hP.h_S_)
  simp only [Cert.Pre_in_range.fn, Cert.Pre_in_range.fn_part1] at e
  have e1 := (IntOp.andi_eq_one.1 (IntOp.andi_eq_one.1 e).1).2
  haveI : Subsingleton (Cert.Pre_in_range.S_).Idx := ⟨fun a b => by funext i; exact i.elim0⟩
  have e2 := Host.reduce_andi_all _ _ _ _ _ e1 (ix3 b s hd)
  clear e1 e
  pointwise at e2
  exact (or_and_of_set _ _ _ e2).imp of_decide_eq_true fun h => ⟨of_decide_eq_true h.1, of_decide_eq_true h.2⟩

/-- The rows of the new values. -/
theorem fits2 [hP : Cert.Pre_in_range.Facts] (m : (ℓ : Loc nD τ sig) → Buf (Elt Ideal) ℓ) (h : Cert.Pre_KernelIdeal_in_range m) (c : Dev nD) (b : Fin 64) (s : Fin 32) (hd : Fin 2) :
    Fits (fun d => (m ((c : Thread nD τ).loc main_arg2) : FVec Ideal S64x32x2x128 .bf16) (ix4 b s hd d)) := by
  have e := congrFun (h c) (Shape.Idx.first hP.h_S_)
  simp only [Cert.Pre_in_range.fn, Cert.Pre_in_range.fn_part1] at e
  have e1 := (IntOp.andi_eq_one.1 e).2
  haveI : Subsingleton (Cert.Pre_in_range.S_).Idx := ⟨fun a b => by funext i; exact i.elim0⟩
  have e2 := Host.reduce_andi_all _ _ _ _ _ e1 (ix3 b s hd)
  clear e1 e
  pointwise at e2
  exact (or_and_of_set _ _ _ e2).imp of_decide_eq_true fun h => ⟨of_decide_eq_true h.1, of_decide_eq_true h.2⟩

end Cert.KernelIdeal.Run
-- ==== Proof.ReferenceAttend.lean ====
/-
  The reference's attention, entry by entry: its result is the attention of each query row over the cache and the new tokens.
-/
module

public import proofs.«01_k».proof.Proof.Gen.ReferenceIdeal.Read
public import proofs.«01_k».proof.Proof.Softmax
public import Idealize.ShloMosaic.Lib.Pointwise

@[expose] public section

set_option maxRecDepth 16384
set_option maxHeartbeats 1000000

noncomputable section

namespace Cert.ReferenceIdeal.Attend

open Cert.ReferenceIdeal Cert.ReferenceIdeal.Gen Cert.ReferenceIdeal.Read Cert.Softmax
open Idealize.ShloMosaic Idealize.ShloMosaic.TcCoe Idealize.ShloMosaic.Tactic

/-- Query `g` of the group of head `h`, among all query heads. -/
def qhead (h : Fin 2) (g : Fin 16) : Fin 32 := ⟨h.val * 16 + g.val, by omega⟩

variable (x0 : FVec Ideal S64x32x32x128 .bf16) (x4 x6 : FVec Ideal S64x2048x2 .f32) (x7 : IVec S64 32) (x8 : IVec S32x32 1)
  (r1 r3 : FVec Ideal S64x32x2 .f32) (r4 r5 : FVec Ideal S64x32x2x128 .bf16) (r6 r7 : FVec Ideal S64x2048x2x128 .bf16)
  (b : Fin 64) (h : Fin 2) (s : Fin 32) (g : Fin 16) (d : Fin 128) (t : Fin 2048) (j : Fin 32)

theorem v50_at : val_main_v50 (F := Ideal) x0 (ix5 b h s g d) = x0 (ix4 b s (qhead h g) d) := by
  pointwise [val_main_v50, val_main_v49, qhead]

theorem v54_at : val_main_v54 (F := Ideal) x4 r6 (ix4 b t h d) = r6 (ix4 b t h d) * x4 (ix3 b t h) := by
  pointwise [val_main_v54, val_main_v53, val_main_v52, val_main_v51]

theorem v58_at : val_main_v58 (F := Ideal) x6 r7 (ix4 b t h d) = r7 (ix4 b t h d) * x6 (ix3 b t h) := by
  pointwise [val_main_v58, val_main_v57, val_main_v56, val_main_v55]

theorem v62_at : val_main_v62 (F := Ideal) r1 r4 (ix4 b s h d) = r4 (ix4 b s h d) * r1 (ix3 b s h) := by
  pointwise [val_main_v62, val_main_v61, val_main_v60, val_main_v59]

theorem v66_at : val_main_v66 (F := Ideal) r3 r5 (ix4 b s h d) = r5 (ix4 b s h d) * r3 (ix3 b s h) := by
  pointwise [val_main_v66, val_main_v65, val_main_v64, val_main_v63]

theorem v77_at : val_main_v77 (F := Ideal) x0 x4 x7 r6 (ix5 b h s g t)
    = Scalar.select (IntOp.cmpi CmpIPredicate.slt (BitVec.ofNat 32 t) (x7 (ix1 b)))
      ((∑ d, x0 (ix4 b s (qhead h g) d) * (r6 (ix4 b t h d) * x4 (ix3 b t h))) * Ideal.ofBits FTy.f32 0x3DB504F3#32) (Ideal.ofBits FTy.f32 4286578688#32) := by
  pointwise [val_main_v77, val_main_call4_v1, val_main_call4_v2, val_main_call4_v0, val_main_cst_20, val_main_cst_19, val_main_v69, val_main_v68, val_main_v67, val_main_v76, val_main_v75, val_main_v74, val_main_v73, val_main_v72, val_main_v71, val_main_v70]
  simp only [v50_at, v54_at]
  all_goals rfl

theorem v82_at : val_main_v82 (F := Ideal) x0 x8 r1 r4 (ix5 b h s g j)
    = Scalar.select (x8 (ix2 s j))
      ((∑ d, x0 (ix4 b s (qhead h g) d) * (r4 (ix4 b j h d) * r1 (ix3 b j h))) * Ideal.ofBits FTy.f32 0x3DB504F3#32) (Ideal.ofBits FTy.f32 4286578688#32) := by
  pointwise [val_main_v82, val_main_call5_v1, val_main_call5_v2, val_main_call5_v0, val_main_cst_22, val_main_cst_21, val_main_v81, val_main_v80, val_main_v79, val_main_v78]
  simp only [v50_at, v62_at]
  all_goals rfl

theorem fold_sup {n : ℕ} (f : Fin n → EReal) : Finset.fold max ⊥ f Finset.univ = Finset.univ.sup f := rfl

theorem ninf : Ideal.ofBits FTy.f32 4286578688#32 = ⊥ := by simp [Ideal.ofBits, Ideal.ieee]

/-- The scores of a query row over the cache and over the new tokens. -/
abbrev sc (t : Fin 2048) : EReal := val_main_v77 (F := Ideal) x0 x4 x7 r6 (ix5 b h s g t)
abbrev sn (j : Fin 32) : EReal := val_main_v82 (F := Ideal) x0 x8 r1 r4 (ix5 b h s g j)
/-- Their maximum and the sum of their exponentials. -/
abbrev mx : EReal := max (Finset.univ.sup (sc x0 x4 x7 r6 b h s g)) (Finset.univ.sup (sn x0 x8 r1 r4 b h s g))
abbrev sumx : EReal := ∑ t, Ideal.exp (sc x0 x4 x7 r6 b h s g t - mx x0 x4 x7 x8 r1 r4 r6 b h s g) + ∑ j, Ideal.exp (sn x0 x8 r1 r4 b h s g j - mx x0 x4 x7 x8 r1 r4 r6 b h s g)

theorem v83_at : val_main_v83 (F := Ideal) x0 x4 x7 r6 (ix4 b h s g) = Finset.univ.sup (sc x0 x4 x7 r6 b h s g) := by
  pointwise [val_main_v83, val_main_cst_23]
  rw [ninf]; exact fold_sup _

theorem v85_at : val_main_v85 (F := Ideal) x0 x8 r1 r4 (ix4 b h s g) = Finset.univ.sup (sn x0 x8 r1 r4 b h s g) := by
  pointwise [val_main_v85, val_main_cst_24]
  rw [ninf]; exact fold_sup _

theorem v87_at : val_main_v87 (F := Ideal) x0 x4 x7 x8 r1 r4 r6 (ix5 b h s g 0) = mx x0 x4 x7 x8 r1 r4 r6 b h s g := by
  rw [val_main_v87_apply, val_main_v84_apply, val_main_v86_apply]
  have e : idx_main_v84 (ix5 b h s g 0) = ix4 b h s g := by
    funext a
    match a with
    | ⟨0, _⟩ => rfl
    | ⟨1, _⟩ => rfl
    | ⟨2, _⟩ => rfl
    | ⟨3, _⟩ => rfl
  have e2 : idx_main_v86 (ix5 b h s g 0) = ix4 b h s g := by
    funext a
    match a with
    | ⟨0, _⟩ => rfl
    | ⟨1, _⟩ => rfl
    | ⟨2, _⟩ => rfl
    | ⟨3, _⟩ => rfl
  rw [e, e2, v83_at, v85_at]
  exact rfl

theorem v90_at : val_main_v90 (F := Ideal) x0 x4 x7 x8 r1 r4 r6 (ix5 b h s g t) = Ideal.exp (sc x0 x4 x7 r6 b h s g t - mx x0 x4 x7 x8 r1 r4 r6 b h s g) := by
  pointwise [val_main_v90, val_main_v89, val_main_v88]
  rw [v87_at]

theorem v93_at : val_main_v93 (F := Ideal) x0 x4 x7 x8 r1 r4 r6 (ix5 b h s g j) = Ideal.exp (sn x0 x8 r1 r4 b h s g j - mx x0 x4 x7 x8 r1 r4 r6 b h s g) := by
  pointwise [val_main_v93, val_main_v92, val_main_v91]
  rw [v87_at]

theorem v98_at : val_main_v98 (F := Ideal) x0 x4 x7 x8 r1 r4 r6 (ix5 b h s g 0) = sumx x0 x4 x7 x8 r1 r4 r6 b h s g := by
  pointwise [val_main_v98, val_main_v95, val_main_v97, val_main_v94, val_main_v96, val_main_cst_25, val_main_cst_26]
  simp only [v90_at, v93_at]

theorem zero_bits : Ideal.ofBits FTy.f32 0#32 = 0 := by simp [Ideal.ofBits, Ideal.ieee]

theorem v103_at : val_main_v103 (F := Ideal) x0 x4 x7 x8 r1 r4 r6 (ix5 b h s g t) = share (mx x0 x4 x7 x8 r1 r4 r6 b h s g) (sumx x0 x4 x7 x8 r1 r4 r6 b h s g) (sc x0 x4 x7 r6 b h s g t) := by
  pointwise [val_main_v103, val_main_call6_v1, val_main_call6_v2, val_main_call6_v0, val_main_cst_28, val_main_cst_27, val_main_v102, val_main_v101, val_main_v100, val_main_v99]
  rw [v98_at, v90_at]
  show (if _ then Ideal.ofBits FTy.f32 0#32 else _) = _
  rw [zero_bits]; rfl

theorem v109_at : val_main_v109 (F := Ideal) x0 x4 x7 x8 r1 r4 r6 (ix5 b h s g j) = share (mx x0 x4 x7 x8 r1 r4 r6 b h s g) (sumx x0 x4 x7 x8 r1 r4 r6 b h s g) (sn x0 x8 r1 r4 b h s g j) := by
  pointwise [val_main_v109, val_main_call7_v1, val_main_call7_v2, val_main_call7_v0, val_main_cst_30, val_main_cst_29, val_main_v108, val_main_v107, val_main_v106, val_main_v105]
  rw [v98_at, v93_at]
  show (if _ then Ideal.ofBits FTy.f32 0#32 else _) = _
  rw [zero_bits]; rfl

theorem v111_at : val_main_v111 (F := Ideal) x0 x4 x6 x7 x8 r1 r4 r6 r7 (ix5 b h d s g)
    = ∑ t, share (mx x0 x4 x7 x8 r1 r4 r6 b h s g) (sumx x0 x4 x7 x8 r1 r4 r6 b h s g) (sc x0 x4 x7 r6 b h s g t) * (r7 (ix4 b t h d) * x6 (ix3 b t h)) := by
  pointwise [val_main_v111, val_main_v104]
  simp only [v58_at, v103_at]
  exact Finset.sum_congr rfl fun t _ => mul_comm _ _

theorem v113_at : val_main_v113 (F := Ideal) x0 x4 x7 x8 r1 r3 r4 r5 r6 (ix5 b h d s g)
    = ∑ j, share (mx x0 x4 x7 x8 r1 r4 r6 b h s g) (sumx x0 x4 x7 x8 r1 r4 r6 b h s g) (sn x0 x8 r1 r4 b h s g j) * (r5 (ix4 b j h d) * r3 (ix3 b j h)) := by
  pointwise [val_main_v113, val_main_v110]
  simp only [v66_at, v109_at]
  exact Finset.sum_congr rfl fun t _ => mul_comm _ _

/-- The reference's result, entry by entry. -/
theorem v117_at : val_main_v117 (F := Ideal) x0 x4 x6 x7 x8 r1 r3 r4 r5 r6 r7 (ix4 b s (qhead h g) d)
    = attend (sc x0 x4 x7 r6 b h s g) (fun t => r7 (ix4 b t h d) * x6 (ix3 b t h)) (sn x0 x8 r1 r4 b h s g) (fun j => r5 (ix4 b j h d) * r3 (ix3 b j h)) := by
  pointwise [val_main_v117]
  have e : val_main_v116 (F := Ideal) x0 x4 x6 x7 x8 r1 r3 r4 r5 r6 r7 (ix4 b s (qhead h g) d) = val_main_v115 (F := Ideal) x0 x4 x6 x7 x8 r1 r3 r4 r5 r6 r7 (ix5 b s h g d) := by
    rw [val_main_v116_apply]
    congr 1
    funext a
    apply Fin.ext
    have h1 := b.isLt; have h2 := s.isLt; have h3 := h.isLt; have h4 := g.isLt; have h5 := d.isLt
    match a with
    | ⟨0, _⟩ => simp [qhead] <;> omega
    | ⟨1, _⟩ => simp [qhead] <;> omega
    | ⟨2, _⟩ => simp [qhead] <;> omega
    | ⟨3, _⟩ => simp [qhead] <;> omega
    | ⟨4, _⟩ => simp [qhead] <;> omega
  rw [e]
  pointwise [val_main_v115, val_main_v112, val_main_v114]
  rw [v111_at, v113_at]
  rfl

end Cert.ReferenceIdeal.Attend
-- ==== Proof.ReferenceQuant.lean ====
/-
  The reference's quantiser, entry by entry: the arrays its host operations hand the region of casts, and the arrays the
  region leaves.
-/
module

public import proofs.«01_k».proof.Proof.Gen.ReferenceIdeal.Run
public import proofs.«01_k».proof.Proof.Quant
public import Idealize.ShloMosaic.Lib.Pointwise
public import Idealize.ShloMosaic.Lib.Pipeline.Value
public import Idealize.ShloMosaic.Lib.Pipeline.ValueKit

@[expose] public section

set_option maxRecDepth 16384
set_option maxHeartbeats 2000000

noncomputable section

namespace Cert.ReferenceIdeal.Quant

open Cert.ReferenceIdeal Cert.ReferenceIdeal.Gen Cert.Quant
open Idealize.ShloMosaic Idealize.ShloMosaic.TcCoe Idealize.ShloMosaic.Tactic

/-- The largest magnitude of each row, as the host takes it. -/
def am (v : FVec Ideal S64x32x2x128 .bf16) : FVec Ideal S64x32x2 .f32 :=
  Host.reduce FloatOps.maximumf (Host.absf ((extf .f32 · bitsLt_bf16_f32) v)) (constant S_ .f32 0xFF800000#32) reducesTo_S64x32x2x128_S64x32x2_d3 h_S_

/-- The exponent of each row's scale. -/
def ex (a : FVec Ideal S64x32x2 .f32) : FVec Ideal S64x32x2 .f32 :=
  select (cmpf .oeq a (broadcastInDim S64x32x2 ![] bcast_S_S64x32x2 (constant S_ .f32 0x00000000#32)))
    (broadcastInDim S64x32x2 ![] bcast_S_S64x32x2 (id (constant S_ .f32 0x00000000#32)))
    (addf (Host.floor (Host.divf (Host.log (mulf a (broadcastInDim S64x32x2 ![] bcast_S_S64x32x2 (constant S_ .f32 0x3B124925#32))))
      (broadcastInDim S64x32x2 ![] bcast_S_S64x32x2 (Host.log (constant S_ .f32 0x40000000#32)))))
      (broadcastInDim S64x32x2 ![] bcast_S_S64x32x2 (constant S_ .f32 0x3F800000#32)))

/-- The scales. -/
def sc (a : FVec Ideal S64x32x2 .f32) : FVec Ideal S64x32x2 .f32 :=
  Host.powf (broadcastInDim S64x32x2 ![] bcast_S_S64x32x2 (constant S_ .f32 0x40000000#32)) (ex a)

/-- The rows over their scales, clipped. -/
def cl (v : FVec Ideal S64x32x2x128 .bf16) : FVec Ideal S64x32x2x128 .f32 :=
  minimumf (broadcastInDim S64x32x2x128 ![] bcast_S_S64x32x2x128 (id (constant S_ .f32 0x43E00000#32)))
    (maximumf (broadcastInDim S64x32x2x128 ![] bcast_S_S64x32x2x128 (id (constant S_ .f32 0xC3E00000#32)))
      (mulf ((extf .f32 · bitsLt_bf16_f32) v)
        (broadcastInDim S64x32x2x128 ![0, 1, 2, 3] bcast_S64x32x2x1_S64x32x2x128_0_1_2_3
          (broadcastInDim S64x32x2x1 ![0, 1, 2] bcast_S64x32x2_S64x32x2x1_0_1_2
            (Host.powf (broadcastInDim S64x32x2 ![] bcast_S_S64x32x2 (constant S_ .f32 0x40000000#32)) (Host.negf (ex (am v))))))))

/-- The row of token `s` of head `h` of sequence `b`. -/
abbrev row (v : FVec Ideal S64x32x2x128 .bf16) (b : Fin 64) (s : Fin 32) (h : Fin 2) : Fin 128 → EReal := fun d => v (ix4 b s h d)

theorem am_at (v : FVec Ideal S64x32x2x128 .bf16) (b : Fin 64) (s : Fin 32) (h : Fin 2) : am v (ix3 b s h) = amax (row v b s h) := by
  pointwise [am]
  rfl

theorem ex_at (a : FVec Ideal S64x32x2 .f32) (b : Fin 64) (s : Fin 32) (h : Fin 2) : ex a (ix3 b s h) = rexp (a (ix3 b s h)) := by
  have e : (id (constant (F := Ideal) S_ FTy.f32 0#32) : FVec Ideal S_ .f32) ix0 = 0 := by
    show Ideal.ofBits FTy.f32 0#32 = 0
    simp
  pointwise [ex]
  rw [e]
  rfl

theorem sc_at (a : FVec Ideal S64x32x2 .f32) (b : Fin 64) (s : Fin 32) (h : Fin 2) : sc a (ix3 b s h) = rscale (a (ix3 b s h)) := by
  pointwise [sc]
  rw [ex_at]
  rfl

theorem cl_at (v : FVec Ideal S64x32x2x128 .bf16) (b : Fin 64) (s : Fin 32) (h : Fin 2) (d : Fin 128) : cl v (ix4 b s h d)
    = min (Ideal.ofBits FTy.f32 1138753536#32) (max (Ideal.ofBits FTy.f32 3286237184#32) (v (ix4 b s h d) * rinv (amax (row v b s h)))) := by
  pointwise [cl]
  rw [ex_at, am_at]
  rfl

variable (m : (ℓ : Loc nD τ sig) → Buf (Elt Ideal) ℓ) (c : Dev nD)

theorem V_v16 : V m c main_v16 = sc (am (m ((c : Thread nD τ).loc main_arg1))) := by
  show StableHlo.after _ _ _ = _
  simp only [hostOps0, hostOps0_1, hostOps0_2, hostOps0_3, hostOps0_4, hostOps0_5, hostOps0_6, hostOps0_7, List.flatten_cons, List.flatten_nil, List.append_nil, List.cons_append, List.nil_append]
  after_results_simp
  simp -implicitDefEqProofs only [StableHlo.TRef.toBuf, StableHlo.TRef.ofBuf, cast_cast, cast_eq]
  rfl

theorem V_v23 : V m c main_v23 = cl (m ((c : Thread nD τ).loc main_arg1)) := by
  show StableHlo.after _ _ _ = _
  simp only [hostOps0, hostOps0_1, hostOps0_2, hostOps0_3, hostOps0_4, hostOps0_5, hostOps0_6, hostOps0_7, List.flatten_cons, List.flatten_nil, List.append_nil, List.cons_append, List.nil_append]
  after_results_simp
  simp -implicitDefEqProofs only [StableHlo.TRef.toBuf, StableHlo.TRef.ofBuf, cast_cast, cast_eq]
  rfl

theorem V_v40 : V m c main_v40 = sc (am (m ((c : Thread nD τ).loc main_arg2))) := by
  show StableHlo.after _ _ _ = _
  simp only [hostOps0, hostOps0_1, hostOps0_2, hostOps0_3, hostOps0_4, hostOps0_5, hostOps0_6, hostOps0_7, List.flatten_cons, List.flatten_nil, List.append_nil, List.cons_append, List.nil_append]
  after_results_simp
  simp -implicitDefEqProofs only [StableHlo.TRef.toBuf, StableHlo.TRef.ofBuf, cast_cast, cast_eq]
  rfl

theorem V_v47 : V m c main_v47 = cl (m ((c : Thread nD τ).loc main_arg2)) := by
  show StableHlo.after _ _ _ = _
  simp only [hostOps0, hostOps0_1, hostOps0_2, hostOps0_3, hostOps0_4, hostOps0_5, hostOps0_6, hostOps0_7, List.flatten_cons, List.flatten_nil, List.append_nil, List.cons_append, List.nil_append]
  after_results_simp
  simp -implicitDefEqProofs only [StableHlo.TRef.toBuf, StableHlo.TRef.ofBuf, cast_cast, cast_eq]
  rfl

end Cert.ReferenceIdeal.Quant
-- ==== Proof.ReferenceRegion.lean ====
/-
  The reference's region of casts: the arrays it leaves are the arrays it is given.
-/
module

public import proofs.«01_k».proof.Proof.Gen.ReferenceIdeal.Frame
public import Idealize.ShloMosaic.Lib.Pointwise
public import Idealize.ShloMosaic.Lib.Pipeline.Value
public import Idealize.ShloMosaic.Lib.Pipeline.ValueKit

@[expose] public section

set_option maxRecDepth 16384
set_option maxHeartbeats 2000000

noncomputable section

namespace Cert.ReferenceIdeal.Region

open Cert.ReferenceIdeal Cert.ReferenceIdeal.Gen
open Idealize.ShloMosaic Idealize.ShloMosaic.TcCoe Idealize.ShloMosaic.Tactic

variable (m : (ℓ : Loc nD τ sig) → Buf (Elt Ideal) ℓ) (c : Dev nD)

section Outs
variable (x0 : Vec Ideal S64x32x2x128 .f32) (x1 : Vec Ideal S64x32x2 .f32) (x2 : Vec Ideal S64x32x2x128 .f32) (x3 : Vec Ideal S64x32x2 .f32) (x4 : Vec Ideal S64x2048x2x128 .fp8e4m3) (x5 : Vec Ideal S64x2048x2x128 .fp8e4m3)

theorem out_6 : out0_6 x0 x1 x2 x3 x4 x5 = x0 := by
  frame_out [out0_6]
  all_goals (funext y; pointwise [k0_pay3, k0_pay3, k0_pay4])

theorem out_7 : out0_7 x0 x1 x2 x3 x4 x5 = x1 := by
  frame_out [out0_7]
  all_goals (funext y; pointwise [k0_pay5, k0_pay3, k0_pay4])

theorem out_8 : out0_8 x0 x1 x2 x3 x4 x5 = x2 := by
  frame_out [out0_8]
  all_goals (funext y; pointwise [k0_pay4, k0_pay3, k0_pay4])

theorem out_9 : out0_9 x0 x1 x2 x3 x4 x5 = x3 := by
  frame_out [out0_9]
  all_goals (funext y; pointwise [k0_pay6, k0_pay3, k0_pay4])

theorem out_10 : out0_10 x0 x1 x2 x3 x4 x5 = x0 := by
  frame_out [out0_10]
  all_goals (funext y; pointwise [k0_pay7, k0_pay3, k0_pay4])

theorem out_11 : out0_11 x0 x1 x2 x3 x4 x5 = x2 := by
  frame_out [out0_11]
  all_goals (funext y; pointwise [k0_pay8, k0_pay3, k0_pay4])

theorem out_12 : out0_12 x0 x1 x2 x3 x4 x5 = x4 := by
  frame_out [out0_12]
  all_goals (funext y; pointwise [k0_pay1, k0_pay3, k0_pay4])

theorem out_13 : out0_13 x0 x1 x2 x3 x4 x5 = x5 := by
  frame_out [out0_13]
  all_goals (funext y; pointwise [k0_pay2, k0_pay3, k0_pay4])

end Outs

theorem arr6 : (dats m 0 c).arrAt 6 cfg0.N = V m c main_v23 := by
  refine (dats m 0 c).arrAt_eq_of_covers 6 _ (by decide +kernel) fun t hf y => ?_
  blk_simp
  rw [after0_6, out_6]
  blk_simp [iblk]
  all_goals rfl

theorem arr7 : (dats m 0 c).arrAt 7 cfg0.N = V m c main_v16 := by
  refine (dats m 0 c).arrAt_eq_of_covers 7 _ (by decide +kernel) fun t hf y => ?_
  blk_simp
  rw [after0_7, out_7]
  blk_simp [iblk]
  all_goals rfl

theorem arr8 : (dats m 0 c).arrAt 8 cfg0.N = V m c main_v47 := by
  refine (dats m 0 c).arrAt_eq_of_covers 8 _ (by decide +kernel) fun t hf y => ?_
  blk_simp
  rw [after0_8, out_8]
  blk_simp [iblk]
  all_goals rfl

theorem arr9 : (dats m 0 c).arrAt 9 cfg0.N = V m c main_v40 := by
  refine (dats m 0 c).arrAt_eq_of_covers 9 _ (by decide +kernel) fun t hf y => ?_
  blk_simp
  rw [after0_9, out_9]
  blk_simp [iblk]
  all_goals rfl

theorem arr10 : (dats m 0 c).arrAt 10 cfg0.N = V m c main_v23 := by
  refine (dats m 0 c).arrAt_eq_of_covers 10 _ (by decide +kernel) fun t hf y => ?_
  blk_simp
  rw [after0_10, out_10]
  blk_simp [iblk]
  all_goals rfl

theorem arr11 : (dats m 0 c).arrAt 11 cfg0.N = V m c main_v47 := by
  refine (dats m 0 c).arrAt_eq_of_covers 11 _ (by decide +kernel) fun t hf y => ?_
  blk_simp
  rw [after0_11, out_11]
  blk_simp [iblk]
  all_goals rfl

theorem arr12 : (dats m 0 c).arrAt 12 cfg0.N = V m c main_arg3 := by
  refine (dats m 0 c).arrAt_eq_of_covers 12 _ (by decide +kernel) fun t hf y => ?_
  blk_simp
  rw [after0_12, out_12]
  blk_simp [iblk]
  all_goals rfl

theorem arr13 : (dats m 0 c).arrAt 13 cfg0.N = V m c main_arg5 := by
  refine (dats m 0 c).arrAt_eq_of_covers 13 _ (by decide +kernel) fun t hf y => ?_
  blk_simp
  rw [after0_13, out_13]
  blk_simp [iblk]
  all_goals rfl

end Cert.ReferenceIdeal.Region
-- ==== Proof.Final.lean ====
/-
  The reference's five results are the kernel's: the attention entry by entry, the codes and the scales row by row.
-/
module

public import proofs.«01_k».proof.Proof.KernelIdealResult
public import proofs.«01_k».proof.Proof.KernelIdealFits
public import proofs.«01_k».proof.Proof.ReferenceAttend
public import proofs.«01_k».proof.Proof.ReferenceQuant
public import proofs.«01_k».proof.Proof.ReferenceRegion
public import proofs.«01_k».proof.Proof.Gen.ReferenceIdeal.Run

@[expose] public section

set_option maxRecDepth 16384
set_option maxHeartbeats 2000000

noncomputable section

namespace Cert.Final

open Cert.ReferenceIdeal Cert.ReferenceIdeal.Read Cert.ReferenceIdeal.Quant Cert.Quant Cert.Softmax
open Cert.KernelIdeal.Arrays (tcodes tscales arow)
open Cert.KernelIdeal.Pay (kcode)
open Cert.KernelIdeal.Result (kout koutAt)
open Idealize.ShloMosaic Idealize.ShloMosaic.TcCoe Idealize.ShloMosaic.Tactic

variable (a0 : FVec Ideal S64x32x32x128 .bf16) (a1 a2 : FVec Ideal S64x32x2x128 .bf16) (a3 : FVec Ideal S64x2048x2x128 .fp8e4m3) (a4 : FVec Ideal S64x2048x2 .f32)
    (a5 : FVec Ideal S64x2048x2x128 .fp8e4m3) (a6 : FVec Ideal S64x2048x2 .f32) (a7 : IVec S64 32) (a8 : IVec S32x32 1)

theorem code_eq (hf : ∀ b s h, Fits (fun d => a1 (ix4 b s h d))) (b : Fin 64) (s : Fin 32) (h : Fin 2) (d : Fin 128) : cl a1 (ix4 b s h d) = kcode (arow a1 b s h) d := by
  rw [cl_at]
  unfold kcode
  rw [(scales_eq _ (hf b s h)).2]

theorem scale_eq (hf : ∀ b s h, Fits (fun d => a1 (ix4 b s h d))) (b : Fin 64) (s : Fin 32) (h : Fin 2) : sc (am a1) (ix3 b s h) = kscale (ratio (arow a1 b s h)) := by
  rw [sc_at, am_at, (scales_eq _ (hf b s h)).1]

theorem codes_eq (hf : ∀ b s h, Fits (fun d => a1 (ix4 b s h d))) : cl a1 = tcodes a1 := by
  funext y
  rw [eq_ix4 y]
  exact code_eq a1 hf _ _ _ _

theorem scales_arr (hf : ∀ b s h, Fits (fun d => a1 (ix4 b s h d))) : sc (am a1) = tscales a1 := by
  funext y
  rw [eq_ix3 y]
  exact scale_eq a1 hf _ _ _

/-- A score with a mask added is the score chosen by the mask. -/
theorem mask (p : BitVec 1) (x : EReal) : Scalar.select p x (⊥ : EReal) = x + Scalar.select p (0 : EReal) (⊥ : EReal) := by
  unfold Scalar.select
  split
  · rw [add_zero]
  · rw [EReal.add_bot]

theorem qheads (h : Fin 2) (g : Fin 16) : Cert.KernelIdeal.Out.qhead h g = Cert.ReferenceIdeal.Attend.qhead h g := Fin.ext (by
  show 16 * h.val + g.val = h.val * 16 + g.val
  omega)

theorem attend_eq (hf1 : ∀ b s h, Fits (fun d => a1 (ix4 b s h d))) (hf2 : ∀ b s h, Fits (fun d => a2 (ix4 b s h d)))
    (b : Fin 64) (s : Fin 32) (h : Fin 2) (g : Fin 16) (d : Fin 128) :
    val_main_v117 (F := Ideal) a0 a4 a6 a7 a8 (sc (am a1)) (sc (am a2)) (cl a1) (cl a2) a3 a5 (ix4 b s (Cert.ReferenceIdeal.Attend.qhead h g) d)
      = koutAt a0 a1 a2 a3 a4 a5 a6 a7 a8 b s h g d := by
  rw [Cert.ReferenceIdeal.Attend.v117_at]
  unfold koutAt
  rw [qheads]
  refine congr (congr (congr (congrArg attend (funext fun k => ?_)) (funext fun k => ?_)) (funext fun j => ?_)) (funext fun j => ?_)
  · show val_main_v77 (F := Ideal) a0 a4 a7 a3 (ix5 b h s g k) = _
    rw [Cert.ReferenceIdeal.Attend.v77_at, Cert.ReferenceIdeal.Attend.ninf]
    congr 2
    exact Finset.sum_congr rfl fun e _ => mul_comm _ _
  · rfl
  · show val_main_v82 (F := Ideal) a0 a8 (sc (am a1)) (cl a1) (ix5 b h s g j) = _
    rw [Cert.ReferenceIdeal.Attend.v82_at, Cert.ReferenceIdeal.Attend.ninf, Cert.ReferenceIdeal.Attend.zero_bits, mask]
    congr 2
    exact Finset.sum_congr rfl fun e _ => by rw [code_eq a1 hf1, scale_eq a1 hf1, mul_comm]
  · rw [code_eq a2 hf2, scale_eq a2 hf2]

theorem out_eq (hf1 : ∀ b s h, Fits (fun d => a1 (ix4 b s h d))) (hf2 : ∀ b s h, Fits (fun d => a2 (ix4 b s h d))) :
    val_main_v117 (F := Ideal) a0 a4 a6 a7 a8 (sc (am a1)) (sc (am a2)) (cl a1) (cl a2) a3 a5 = kout a0 a1 a2 a3 a4 a5 a6 a7 a8 := by
  funext y
  have h2 : (y 2).val < 32 := (y 2).isLt
  have e : y = ix4 (y 0) (y 1) (Cert.ReferenceIdeal.Attend.qhead ⟨(y 2).val / 16, by omega⟩ ⟨(y 2).val % 16, Nat.mod_lt _ (by norm_num)⟩) (y 3) := by
    conv_lhs => rw [eq_ix4 y]
    congr 1
    apply Fin.ext
    show (y 2).val = (y 2).val / 16 * 16 + (y 2).val % 16
    omega
  exact (congrArg _ e).trans (attend_eq a0 a1 a2 a3 a4 a5 a6 a7 a8 hf1 hf2 _ _ _ _ _)

variable (m : (ℓ : Loc nD τ sig) → Buf (Elt Ideal) ℓ) (c : Dev nD)

/-- What the reference's attention result is computed from. -/
theorem ref_v117 : val_main_v117 (F := Ideal) (Cert.ReferenceIdeal.Value.exitV m c (Proc.devRef .tc main_arg0)) (Cert.ReferenceIdeal.Value.exitV m c (Proc.devRef .tc main_arg4)) (Cert.ReferenceIdeal.Value.exitV m c (Proc.devRef .tc main_arg6))
      (Cert.ReferenceIdeal.Value.exitV m c (Proc.devRef .tc main_arg7)) (Cert.ReferenceIdeal.Value.exitV m c (Proc.devRef .tc main_arg8)) (Cert.ReferenceIdeal.Value.exitV m c (Proc.devRef .tc main_v48_1)) (Cert.ReferenceIdeal.Value.exitV m c (Proc.devRef .tc main_v48_3))
      (Cert.ReferenceIdeal.Value.exitV m c (Proc.devRef .tc main_v48_4)) (Cert.ReferenceIdeal.Value.exitV m c (Proc.devRef .tc main_v48_5)) (Cert.ReferenceIdeal.Value.exitV m c (Proc.devRef .tc main_v48_6)) (Cert.ReferenceIdeal.Value.exitV m c (Proc.devRef .tc main_v48_7))
    = val_main_v117 (F := Ideal) (m ((c.tc : Thread nD τ).loc main_arg0)) (m ((c.tc : Thread nD τ).loc main_arg4)) (m ((c.tc : Thread nD τ).loc main_arg6)) (m ((c.tc : Thread nD τ).loc main_arg7)) (m ((c.tc : Thread nD τ).loc main_arg8))
      (sc (am (m ((c.tc : Thread nD τ).loc main_arg1)))) (sc (am (m ((c.tc : Thread nD τ).loc main_arg2)))) (cl (m ((c.tc : Thread nD τ).loc main_arg1))) (cl (m ((c.tc : Thread nD τ).loc main_arg2))) (m ((c.tc : Thread nD τ).loc main_arg3)) (m ((c.tc : Thread nD τ).loc main_arg5)) := by
  have h1 := (Cert.ReferenceIdeal.Value.exit_main_v48_1 m c).trans ((Cert.ReferenceIdeal.Region.arr7 m c).trans (V_v16 m c))
  have h3 := (Cert.ReferenceIdeal.Value.exit_main_v48_3 m c).trans ((Cert.ReferenceIdeal.Region.arr9 m c).trans (V_v40 m c))
  have h4 := (Cert.ReferenceIdeal.Value.exit_main_v48_4 m c).trans ((Cert.ReferenceIdeal.Region.arr10 m c).trans (V_v23 m c))
  have h5 := (Cert.ReferenceIdeal.Value.exit_main_v48_5 m c).trans ((Cert.ReferenceIdeal.Region.arr11 m c).trans (V_v47 m c))
  have h6 := (Cert.ReferenceIdeal.Value.exit_main_v48_6 m c).trans ((Cert.ReferenceIdeal.Region.arr12 m c).trans (Cert.ReferenceIdeal.Gen.V_main_arg3 m c))
  have h7 := (Cert.ReferenceIdeal.Value.exit_main_v48_7 m c).trans ((Cert.ReferenceIdeal.Region.arr13 m c).trans (Cert.ReferenceIdeal.Gen.V_main_arg5 m c))
  rw [Cert.ReferenceIdeal.Value.exit_main_arg0, Cert.ReferenceIdeal.Value.exit_main_arg4, Cert.ReferenceIdeal.Value.exit_main_arg6, Cert.ReferenceIdeal.Value.exit_main_arg7, Cert.ReferenceIdeal.Value.exit_main_arg8, h1, h3, h4, h5, h6, h7]

end Cert.Final
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_lengths_fit
public import proofs.«01_k».proof.Proof.Gen.Pre_in_range
public import proofs.«01_k».proof.Proof.KernelLengths
public import proofs.«01_k».proof.Proof.KernelIdealLengths
public import proofs.«01_k».proof.Proof.KernelIdealInRange
public import proofs.«01_k».proof.Proof.Final
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_lengths_fit.Gen.facts, Cert.Pre_in_range.Gen.facts,
  fun m g h => Cert.Kernel.Run.frame m g (Cert.Kernel.Run.hyps_of_pre m h),
  fun m g h => Cert.KernelIdeal.Run.frame m g (Cert.KernelIdeal.Run.hyps_of_pre m h),
  fun m g h => Cert.KernelIdeal.Run.frame m g (Cert.KernelIdeal.Run.hyps_of_in_range m h),
  fun m g _ => Cert.ReferenceIdeal.Gen.frame m g,
  fun m g _ => Cert.ReferenceIdeal.Gen.frame m g,
  ⟨IdealRules.bf16_pair.statement _ _, IdealRules.bf16_pair.statement _ _⟩, by
  haveI := Cert.Pre_in_range.Gen.facts
  intro m g m' g' hP ha
  have hH : Cert.KernelIdeal.Run.Hyps m := Cert.KernelIdeal.Run.hyps_of_in_range m hP
  have hf1 := fun c => Cert.KernelIdeal.Run.fits1 m hP c
  have hf2 := fun c => Cert.KernelIdeal.Run.fits2 m hP c
  refine ⟨fun c => Cert.KernelIdeal.Result.kout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.KernelIdeal.Arrays.tcodes (m ((c.tc : Thread Cert.KernelIdeal.nD Cert.KernelIdeal.τ).loc Cert.KernelIdeal.main_arg1)),
    fun c => Cert.KernelIdeal.Arrays.tscales (m ((c.tc : Thread Cert.KernelIdeal.nD Cert.KernelIdeal.τ).loc Cert.KernelIdeal.main_arg1)),
    fun c => Cert.KernelIdeal.Arrays.tcodes (m ((c.tc : Thread Cert.KernelIdeal.nD Cert.KernelIdeal.τ).loc Cert.KernelIdeal.main_arg2)),
    fun c => Cert.KernelIdeal.Arrays.tscales (m ((c.tc : Thread Cert.KernelIdeal.nD Cert.KernelIdeal.τ).loc Cert.KernelIdeal.main_arg2)), ?_, ?_⟩
  · exact (θ_run _ _ _).mono (fun r h c =>
      ⟨((h.2 c).1 9).trans (Cert.KernelIdeal.Result.arr9 m hH c (fun y => Cert.KernelIdeal.Run.len_of_in_range m hP c y)),
       ((h.2 c).2 Cert.KernelIdeal.main_v10 (Pipeline.mem_restRefs_of Cert.KernelIdeal.main_v10 (by decide) (by decide))).trans (Cert.KernelIdeal.Arrays.res10 m hH c),
       ((h.2 c).2 Cert.KernelIdeal.main_v12 (Pipeline.mem_restRefs_of Cert.KernelIdeal.main_v12 (by decide) (by decide))).trans (Cert.KernelIdeal.Arrays.res12 m hH c),
       ((h.2 c).2 Cert.KernelIdeal.main_v13 (Pipeline.mem_restRefs_of Cert.KernelIdeal.main_v13 (by decide) (by decide))).trans (Cert.KernelIdeal.Arrays.res13 m hH c),
       ((h.2 c).2 Cert.KernelIdeal.main_v15 (Pipeline.mem_restRefs_of Cert.KernelIdeal.main_v15 (by decide) (by decide))).trans (Cert.KernelIdeal.Arrays.res15 m hH c),
       h.1 c⟩)
      (θ_run_and (Cert.KernelIdeal.Run.unchanged m g hH) (Cert.KernelIdeal.Run.run_main m g hH))
  · refine (θ_run _ _ _).mono (fun r h c => ?_) (Cert.ReferenceIdeal.Value.run m' g')
    obtain ⟨e0, e1, e2, e3, e4, e5, e6, e7, e8⟩ := ha c
    obtain ⟨r0, r1, r2, r3, r4, rest⟩ := h c
    refine ⟨?_, ?_, ?_, ?_, ?_, rest⟩
    · refine r0.trans ((Cert.ReferenceIdeal.Read.val_main_v117_eq _).trans ((Cert.Final.ref_v117 m' c).trans ?_))
      rw [e0, e1, e2, e3, e4, e5, e6, e7, e8]
      exact Cert.Final.out_eq _ _ _ _ _ _ _ _ _ (hf1 c) (hf2 c)
    · refine r1.trans ((Cert.ReferenceIdeal.Region.arr6 m' c).trans ((Cert.ReferenceIdeal.Quant.V_v23 m' c).trans ?_))
      rw [e1]
      exact Cert.Final.codes_eq _ (hf1 c)
    · refine r2.trans ((Cert.ReferenceIdeal.Region.arr7 m' c).trans ((Cert.ReferenceIdeal.Quant.V_v16 m' c).trans ?_))
      rw [e1]
      exact Cert.Final.scales_arr _ (hf1 c)
    · refine r3.trans ((Cert.ReferenceIdeal.Region.arr8 m' c).trans ((Cert.ReferenceIdeal.Quant.V_v47 m' c).trans ?_))
      rw [e2]
      exact Cert.Final.codes_eq _ (hf2 c)
    · refine r4.trans ((Cert.ReferenceIdeal.Region.arr9 m' c).trans ((Cert.ReferenceIdeal.Quant.V_v40 m' c).trans ?_))
      rw [e2]
      exact Cert.Final.scales_arr _ (hf2 c)⟩

end Cert.Proof

end
